-- ==== Defs.lean ====
def Pre_Kernel [hPre_idx_in_rows : Cert.Pre_idx_in_rows.Facts] (m : (ℓ : Loc Cert.Kernel.nD Cert.Kernel.τ Cert.Kernel.sig) → Buf (Elt Bits) ℓ) : Prop :=
  ∀ c : Dev Cert.Kernel.nD,
    (Cert.Pre_idx_in_rows.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_idx_in_rows : Cert.Pre_idx_in_rows.Facts] (m : (ℓ : Loc Cert.KernelIdeal.nD Cert.KernelIdeal.τ Cert.KernelIdeal.sig) → Buf (Elt Ideal) ℓ) : Prop :=
  ∀ c : Dev Cert.KernelIdeal.nD,
    (Cert.Pre_idx_in_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_idx_in_rows [hPre_idx_in_rows : Cert.Pre_idx_in_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_idx_in_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_idx_in_rows : Cert.Pre_idx_in_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_idx_in_rows : Cert.Pre_idx_in_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_idx_in_rows [hReferenceIdeal : Cert.ReferenceIdeal.Facts] [hPre_idx_in_rows : Cert.Pre_idx_in_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_idx_in_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_idx_in_rows : Cert.Pre_idx_in_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_idx_in_rows : Cert.Pre_idx_in_rows.Facts),
    quiescent_Kernel (hKernel := hKernel) (hPre_idx_in_rows := hPre_idx_in_rows)
    ∧ quiescent_KernelIdeal (hKernelIdeal := hKernelIdeal) (hPre_idx_in_rows := hPre_idx_in_rows)
    ∧ quiescent_ReferenceIdeal (hReferenceIdeal := hReferenceIdeal)
    ∧ quiescent_ReferenceIdeal_pre_idx_in_rows (hReferenceIdeal := hReferenceIdeal) (hPre_idx_in_rows := hPre_idx_in_rows)
    ∧ preserves_Kernel_KernelIdeal
    ∧ algebraic_KernelIdeal_ReferenceIdeal (hKernelIdeal := hKernelIdeal) (hReferenceIdeal := hReferenceIdeal) (hPre_idx_in_rows := hPre_idx_in_rows)
-- ==== Pre_idx_in_rows.lean ====
abbrev S10000x128 : Shape := ⟨2, ![10000, 128]⟩
abbrev S100000 : Shape := ⟨1, ![100000]⟩
abbrev S_ : Shape := ⟨0, ![]⟩

class Facts : Prop where
  bcast_S_S100000 : S_.BroadcastsInDim S100000 (![] : Fin 0 → Fin S100000.rank)
  reducesTo_S100000_S_d0 : S100000.ReducesTo [0] S_
  h_S_ : 0 < S_.numel

variable [Facts]

def fn {F : FTy → Type} [FloatOps F] (main_arg0 : FVec F S10000x128 .f32) (main_arg1 : IVec S100000 32) : IVec S_ 1 :=
  let main_c : IVec S_ 32 := constantI S_ 32 0#32
  let main_v0 : IVec S100000 32 := broadcastInDim S100000 ![] bcast_S_S100000 main_c
  let main_v1 : IVec S100000 1 := cmpi .sge main_arg1 main_v0
  let main_c_0 : IVec S_ 1 := constantI S_ 1 1#1
  let main_v2 : IVec S_ 1 := (fun x v => Host.reduce IntOp.andi x v reducesTo_S100000_S_d0 h_S_) main_v1 main_c_0
  let main_c_1 : IVec S_ 32 := constantI S_ 32 10000#32
  let main_v3 : IVec S100000 32 := broadcastInDim S100000 ![] bcast_S_S100000 main_c_1
  let main_v4 : IVec S100000 1 := cmpi .slt main_arg1 main_v3
  let main_c_2 : IVec S_ 1 := constantI S_ 1 1#1
  let main_v5 : IVec S_ 1 := (fun x v => Host.reduce IntOp.andi x v reducesTo_S100000_S_d0 h_S_) main_v4 main_c_2
  let main_v6 : IVec S_ 1 := andi main_v2 main_v5
  main_v6
-- ==== Kernel.lean ====
abbrev S10000x128 : Shape := ⟨2, ![10000, 128]⟩
abbrev S100000 : Shape := ⟨1, ![100000]⟩
abbrev S100000x128 : Shape := ⟨2, ![100000, 128]⟩
abbrev S3280 : Shape := ⟨1, ![3280]⟩
abbrev S104x128 : Shape := ⟨2, ![104, 128]⟩
abbrev S_ : Shape := ⟨0, ![]⟩
abbrev S3120 : Shape := ⟨1, ![3120]⟩
abbrev S624x128 : Shape := ⟨2, ![624, 128]⟩
abbrev S640x128 : Shape := ⟨2, ![640, 128]⟩
abbrev S104 : Shape := ⟨1, ![104]⟩
abbrev S56x128 : Shape := ⟨2, ![56, 128]⟩
abbrev S56 : Shape := ⟨1, ![56]⟩

abbrev nBuf : Table → Nat
  | .hbm => 3
  | .shared => 1
  | .local .scVector .vmem => 4
  | _ => 0

abbrev bufTy : (tb : Table) → Fin (nBuf tb) → BufTy
  | .hbm, ⟨0, _⟩ => ⟨S10000x128, .f32⟩
  | .hbm, ⟨1, _⟩ => ⟨S100000, .i32⟩
  | .hbm, ⟨2, _⟩ => ⟨S100000x128, .f32⟩
  | .shared, ⟨0, _⟩ => ⟨S10000x128, .f32⟩
  | .local .scVector .vmem, ⟨0, _⟩ => ⟨S3280, .i32⟩
  | .local .scVector .vmem, ⟨1, _⟩ => ⟨S104x128, .f32⟩
  | .local .scVector .vmem, ⟨2, _⟩ => ⟨S104x128, .f32⟩
  | .local .scVector .vmem, ⟨3, _⟩ => ⟨S104x128, .f32⟩
  | _, _ => ⟨S10000x128, .f32⟩

abbrev bufScoped : (cs : CoreSpace) → Fin (nBuf (.local .tc cs)) → Bool
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 12 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | _ => false

abbrev sig : RefSig :=
  ofTables nBuf rfl bufTy 5 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.shared, 0, rfl⟩
abbrev cc0_scratch1 : Ref sig .scVector := ⟨.vmem, 0, rfl⟩
abbrev cc0_scratch2 : Ref sig .scVector := ⟨.vmem, 1, rfl⟩
abbrev cc0_scratch3 : Ref sig .scVector := ⟨.vmem, 2, rfl⟩
abbrev cc0_scratch4 : Ref sig .scVector := ⟨.vmem, 3, rfl⟩
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v3 : BitVec 1 := Scalar.cmpi .slt v1 c31_i32
  let v4 : BitVec 32 := Scalar.extui v3
  let c0_i32 : BitVec 32 := 0#32
  let v5 : BitVec 1 := Scalar.cmpi .ne v4 c0_i32
  v5

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3120_i32 : BitVec 32 := 3120#32
  let v2 : BitVec 32 := Scalar.muli v1 c3120_i32
  ![v2.toNat]
def k0_cond2 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32_0 : BitVec 32 := 31#32
  let v6 : BitVec 1 := Scalar.cmpi .eq v1 c31_i32_0
  let v7 : BitVec 32 := Scalar.extui v6
  let c0_i32_1 : BitVec 32 := 0#32
  let v8 : BitVec 1 := Scalar.cmpi .ne v7 c0_i32_1
  v8

def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3120_i32 : BitVec 32 := 3120#32
  let v2 : BitVec 32 := Scalar.muli v1 c3120_i32
  ![v2.toNat]
def k0_cond3 (i : grid0.Coords) : BitVec 1 :=
  let arg1 : BitVec 32 := BitVec.ofNat 32 (i 1).val
  let c15_i32 : BitVec 32 := 15#32
  let v9 : BitVec 1 := Scalar.cmpi .slt arg1 c15_i32
  let v10 : BitVec 32 := Scalar.extui v9
  let c0_i32_2 : BitVec 32 := 0#32
  let v11 : BitVec 1 := Scalar.cmpi .ne v10 c0_i32_2
  v11

def k0_off3 (i : grid0.Coords) : Fin 2 → Nat :=
  let arg1 : BitVec 32 := BitVec.ofNat 32 (i 1).val
  let c624_i32_74 : BitVec 32 := 624#32
  let v80 : BitVec 32 := Scalar.muli arg1 c624_i32_74
  let c0_i32_75_r2 : BitVec 32 := 0#32
  ![v80.toNat, 0]
def k0_off4 (i : grid0.Coords) (c0_i32_11 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3120_i32 : BitVec 32 := 3120#32
  let v2 : BitVec 32 := Scalar.muli v1 c3120_i32
  let v19 : BitVec 32 := Scalar.addi v2 c0_i32_11
  let c0_i32_12 : BitVec 32 := 0#32
  ![v19.toNat, 0]
def k0_off4_at (r : Fin 8) : BitVec 32 :=
  if r.val < 4 then
    if r.val < 2 then
      if r.val < 1 then
        0#32
      else
        104#32
    else
      if r.val < 3 then
        208#32
      else
        2808#32
  else
    if r.val < 6 then
      if r.val < 5 then
        2600#32
      else
        2912#32
    else
      if r.val < 7 then
        2704#32
      else
        3016#32
@[reducible] def k0_t1_loop : Scf.Loop 32 :=
  let c1_i32 : BitVec 32 := 1#32
  let c8_i32 : BitVec 32 := 8#32
  let v41 : BitVec 32 := Scalar.addi c1_i32 c8_i32
  let c1_i32_36 : BitVec 32 := 1#32
  ⟨c1_i32, v41, c1_i32_36⟩
def k0_off5 (k0_t1 : Fin k0_t1_loop.trips) (c0_i32_74 : BitVec 32) : Fin 1 → Nat :=
  let c1_i32 : BitVec 32 := 1#32
  let c1_i32_36 : BitVec 32 := 1#32
  let arg18 : BitVec 32 := Scf.iv c1_i32 c1_i32_36 k0_t1
  let c3_i32 : BitVec 32 := 3#32
  let v79 : BitVec 32 := Scalar.muli arg18 c3_i32
  let v80 : BitVec 32 := Scalar.addi v79 c0_i32_74
  let c104_i32_75 : BitVec 32 := 104#32
  let v81 : BitVec 32 := Scalar.muli v80 c104_i32_75
  ![v81.toNat]
def k0_off6 (i : grid0.Coords) (k0_t1 : Fin k0_t1_loop.trips) (c0_i32_74 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3120_i32 : BitVec 32 := 3120#32
  let v2 : BitVec 32 := Scalar.muli v1 c3120_i32
  let c1_i32 : BitVec 32 := 1#32
  let c1_i32_36 : BitVec 32 := 1#32
  let arg18 : BitVec 32 := Scf.iv c1_i32 c1_i32_36 k0_t1
  let c3_i32 : BitVec 32 := 3#32
  let v79 : BitVec 32 := Scalar.muli arg18 c3_i32
  let v80 : BitVec 32 := Scalar.addi v79 c0_i32_74
  let c104_i32_78 : BitVec 32 := 104#32
  let v84 : BitVec 32 := Scalar.muli v80 c104_i32_78
  let v85 : BitVec 32 := Scalar.addi v2 v84
  let c0_i32_79 : BitVec 32 := 0#32
  ![v85.toNat, 0]
def k0_off7 (i : grid0.Coords) (k0_t1 : Fin k0_t1_loop.trips) (c0_i32_74 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3120_i32 : BitVec 32 := 3120#32
  let v2 : BitVec 32 := Scalar.muli v1 c3120_i32
  let c1_i32 : BitVec 32 := 1#32
  let c1_i32_36 : BitVec 32 := 1#32
  let arg18 : BitVec 32 := Scf.iv c1_i32 c1_i32_36 k0_t1
  let c3_i32 : BitVec 32 := 3#32
  let v79 : BitVec 32 := Scalar.muli arg18 c3_i32
  let v80 : BitVec 32 := Scalar.addi v79 c0_i32_74
  let c2_i32_81 : BitVec 32 := 2#32
  let v88 : BitVec 32 := Scalar.subi v80 c2_i32_81
  let c104_i32_82 : BitVec 32 := 104#32
  let v89 : BitVec 32 := Scalar.muli v88 c104_i32_82
  let v90 : BitVec 32 := Scalar.addi v2 v89
  let c0_i32_83 : BitVec 32 := 0#32
  ![v90.toNat, 0]
def k0_off8 (k0_t1 : Fin k0_t1_loop.trips) (c0_i32_74 : BitVec 32) : Fin 1 → Nat :=
  let c1_i32 : BitVec 32 := 1#32
  let c1_i32_36 : BitVec 32 := 1#32
  let arg18 : BitVec 32 := Scf.iv c1_i32 c1_i32_36 k0_t1
  let c3_i32 : BitVec 32 := 3#32
  let v79 : BitVec 32 := Scalar.muli arg18 c3_i32
  let v80 : BitVec 32 := Scalar.addi v79 c0_i32_74
  let c1_i32_85 : BitVec 32 := 1#32
  let v93 : BitVec 32 := Scalar.addi v80 c1_i32_85
  let c104_i32_86 : BitVec 32 := 104#32
  let v94 : BitVec 32 := Scalar.muli v93 c104_i32_86
  ![v94.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S10000x128 : Shape := ⟨2, ![10000, 128]⟩
abbrev S100000 : Shape := ⟨1, ![100000]⟩
abbrev S_ : Shape := ⟨0, ![]⟩
abbrev S100000x1 : Shape := ⟨2, ![100000, 1]⟩
abbrev S1 : Shape := ⟨1, ![1]⟩
abbrev S1x1 : Shape := ⟨2, ![1, 1]⟩
abbrev S100000x128 : Shape := ⟨2, ![100000, 128]⟩

abbrev nBuf : Space → Nat
  | .hbm => 25
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S100000, .i32⟩
  | .hbm, ⟨2, _⟩ => ⟨S_, .i32⟩
  | .hbm, ⟨3, _⟩ => ⟨S100000, .i32⟩
  | .hbm, ⟨4, _⟩ => ⟨S100000, .i1⟩
  | .hbm, ⟨5, _⟩ => ⟨S_, .i32⟩
  | .hbm, ⟨6, _⟩ => ⟨S100000, .i32⟩
  | .hbm, ⟨7, _⟩ => ⟨S100000, .i32⟩
  | .hbm, ⟨8, _⟩ => ⟨S100000, .i32⟩
  | .hbm, ⟨9, _⟩ => ⟨S100000x1, .i32⟩
  | .hbm, ⟨10, _⟩ => ⟨S1, .i32⟩
  | .hbm, ⟨11, _⟩ => ⟨S_, .i32⟩
  | .hbm, ⟨12, _⟩ => ⟨S100000x1, .i32⟩
  | .hbm, ⟨13, _⟩ => ⟨S100000x1, .i1⟩
  | .hbm, ⟨14, _⟩ => ⟨S1x1, .i32⟩
  | .hbm, ⟨15, _⟩ => ⟨S100000x1, .i32⟩
  | .hbm, ⟨16, _⟩ => ⟨S100000x1, .i1⟩
  | .hbm, ⟨17, _⟩ => ⟨S100000x1, .i1⟩
  | .hbm, ⟨18, _⟩ => ⟨S_, .i1⟩
  | .hbm, ⟨19, _⟩ => ⟨S100000, .i1⟩
  | .hbm, ⟨20, _⟩ => ⟨S100000x128, .f32⟩
  | .hbm, ⟨21, _⟩ => ⟨S100000x128, .i1⟩
  | .hbm, ⟨22, _⟩ => ⟨S_, .f32⟩
  | .hbm, ⟨23, _⟩ => ⟨S100000x128, .f32⟩
  | .hbm, ⟨24, _⟩ => ⟨S100000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Proof.Setup.lean ====
/-
  The set-up of the proof for `KernelIdeal`: the program as the launch theorem of the SparseCore library reads it, the
  buffers, the bands of rows into which the kernel cuts them, the value the kernel computes (`OUT`), the barrier's
  schedule, and what each handshake between the TensorCore, the sequencers and the tiles carries.

  The kernel. Tile `(c, s)` (SparseCore `c` of 2, subcore `s` of 16) owns rows `base .. base + 3120` of the result,
  `base = 6240 s + 3120 c`; the last tile (`c = 1`, `s = 15`) owns 160 rows more. Each tile copies its part of the index
  list into its own memory, and rows `624 s .. 624 s + 624` of the table (to the end of the table, for `s = 15`) into
  the memory its SparseCore shares; after the barrier every tile may read the whole table there.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

/-- The labels of the program without its SparseCore call. -/
abbrev ΛP : Labels := Pipeline.Sig Λ₀ (Fin 0) fun p => (pcfgs (F := F) p).Adm
/-- The SparseCore call's configuration. -/
abbrev K : SparseCore.Cfg τ sig (ΛP (F := F)) 1 := sc (F := F)
/-- The SparseCore that has number `c` of the call's cores. -/
abbrev coreOf (c : Fin ((K (F := F)).nCore 0)) : Fin τ.nSC := (K (F := F)).core 0 c
/-- The program's definitions without its SparseCore call. -/
abbrev D [FloatOps F] : Defs nD τ sig (Elt F) (ΛP (F := F)) := Pipeline.defs pcfgs defs₀
/-- No loop of the kernel takes a variant. -/
abbrev 𝒱₀ : Variants := Variants.none
/-- The same for the whole program. -/
abbrev 𝒱 : Variants := 𝒱₀.lift
/-- The one variant. -/
abbrev v₀ : 𝒱.V := Sum.inl none

/-- The side conditions of the launch theorem. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the barrier's rounds, the transfers' counters -/

abbrev UH : Type := URounds (GSem nD τ sig) ℕ
abbrev UB : Type := URounds (GSem nD τ sig) ℕ
abbrev UU : Type := UH × (UB × Counters)

local notation "𝕄" => MT nD τ sig (HIx 1) (Elt F) ℕ UU ℕ

/-- The handshakes' rounds: the first factor. -/
abbrev EH : Emb UH (MT nD τ sig (HIx 1) (Elt F) ℕ UU ℕ) := embL
/-- The barrier's rounds: the second factor. -/
def EB : Emb UB (MT nD τ sig (HIx 1) (Elt F) ℕ UU ℕ) :=
  ((Emb.inl : Emb UB (UB × Counters)).trans (Emb.inr : Emb (UB × Counters) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance

/-! ## Bands of a shape: the indices whose coordinate on one axis lies in an interval -/

/-- The indices of `s` whose coordinate on axis `k` is one of `a, …, a + n - 1`. -/
def band (s : Shape) (k : Fin s.rank) (a n : ℕ) : Finset s.Idx :=
  Finset.univ.filter fun x => a ≤ (x k).val ∧ (x k).val < a + n

theorem mem_band {s : Shape} {k : Fin s.rank} {a n : ℕ} {x : s.Idx} : x ∈ band s k a n ↔ a ≤ (x k).val ∧ (x k).val < a + n := by
  simp [band]

/-- Two bands whose intervals do not meet have no index in common. -/
theorem band_disjoint {s : Shape} {k : Fin s.rank} {a n b p : ℕ} (h : a + n ≤ b ∨ b + p ≤ a) : Disjoint (band s k a n) (band s k b p) :=
  Finset.disjoint_left.mpr fun x hx hy => by rw [mem_band] at hx hy; omega

/-- A band cut in two. -/
theorem band_add (s : Shape) (k : Fin s.rank) (a n p : ℕ) : band s k a (n + p) = band s k a n ∪ band s k (a + n) p := by
  ext x; rw [Finset.mem_union, mem_band, mem_band, mem_band]; omega

theorem band_subset {s : Shape} {k : Fin s.rank} {a n b p : ℕ} (h : b ≤ a) (h' : a + n ≤ b + p) : band s k a n ⊆ band s k b p :=
  fun x hx => by rw [mem_band] at hx ⊢; omega

/-- A band over the whole axis is everything. -/
theorem band_full {s : Shape} {k : Fin s.rank} {n : ℕ} (h : s.size k ≤ n) : band s k 0 n = Finset.univ :=
  Finset.eq_univ_of_forall fun x => mem_band.mpr ⟨Nat.zero_le _, by have := (x k).isLt; omega⟩

/-! ## Shares -/

/-- Part `j` of `o` of a share. -/
def cut (q : PosShare TreeShare) (o j : ℕ) : PosShare TreeShare :=
  if h : j < o then Idealize.ShloMosaic.pieceOf q o (Nat.zero_lt_of_lt h) ⟨j, h⟩ else q

/-- Elements held at a share are held at its parts. -/
theorem pts_cut {ℓ : Loc nD τ sig} (I : Finset (Idx ℓ)) (f : Buf (Elt F) ℓ) (q : PosShare TreeShare) (o : ℕ) (ho : 0 < o) :
    (ℓ ↦[I]{q} f : sProp 𝕄) = bigSep Finset.univ fun j : Fin o => ℓ ↦[I]{cut q o j.val} f := by
  rw [Idealize.ShloMosaic.pointsTo_piecesOf I f ho q]
  exact congrArg _ (funext fun j => by rw [cut, dif_pos j.isLt])

/-! ## The launch memory and the buffers -/

variable (m : (ℓ : Loc nD τ sig) → Buf (Elt F) ℓ) (ρ : Dev nD → PrngReg)

/-- The table, the list of row numbers and the result. -/
abbrev xLoc (d : Dev nD) : Loc nD τ sig := (SparseCore.T d).loc main_arg0
abbrev iLoc (d : Dev nD) : Loc nD τ sig := (SparseCore.T d).loc main_arg1
abbrev oLoc (d : Dev nD) : Loc nD τ sig := (SparseCore.T d).loc main_v0
/-- The memory SparseCore `c` shares, as every tile of it addresses it. -/
abbrev shRef (c : Fin τ.nSC) : DevRef τ sig := ⟨.shared, ⟨0, by decide⟩, c⟩
abbrev shLoc (d : Dev nD) (c : Fin τ.nSC) : Loc nD τ sig := (d, shRef c)

/-- Bands of rows of the result, of the table, and bands of a tile's copy of its part of the list. -/
abbrev oRows (a n : ℕ) : Finset S100000x128.Idx := band S100000x128 0 a n
abbrev tRows (a n : ℕ) : Finset S10000x128.Idx := band S10000x128 0 a n
abbrev ents (a n : ℕ) : Finset S3280.Idx := band S3280 0 a n

set_option backward.proofsInPublic true in
/-- Element `(r, b)` of the table, `r` taken modulo the table's height. -/
def tIx (r : ℕ) (b : Fin 128) : S10000x128.Idx := fun a => match a with
  | 0 => (⟨r % 10000, Nat.mod_lt _ (by decide)⟩ : Fin 10000)
  | 1 => b
set_option backward.proofsInPublic true in
/-- Entry `r` of the list, `r` taken modulo its length. -/
def iIx (r : ℕ) : S100000.Idx := fun a => match a with
  | 0 => (⟨r % 100000, Nat.mod_lt _ (by decide)⟩ : Fin 100000)
set_option backward.proofsInPublic true in
/-- Element `(r, b)` of the result, `r` taken modulo its height. -/
def oIx (r : ℕ) (b : Fin 128) : S100000x128.Idx := fun a => match a with
  | 0 => (⟨r % 100000, Nat.mod_lt _ (by decide)⟩ : Fin 100000)
  | 1 => b

/-- THE RESULT: row `r` is the table's row that entry `r` of the list names. -/
def OUT (d : Dev nD) : Buf (Elt F) (oLoc d) := fun (x : S100000x128.Idx) =>
  (m (xLoc d) (tIx (BitVec.toNat (m (iLoc d) (iIx (x 0).val) : BitVec 32)) (x 1)) : Elt F .f32)

/-- The precondition: every entry of the list names a row of the table. -/
def PreOK : Prop := ∀ (d : Dev nD) (j : S100000.Idx), BitVec.toNat (m (iLoc d) j : BitVec 32) < 10000

/-- The shared memory's contents once every tile has copied its rows: the table. -/
abbrev shTab (d : Dev nD) (c : Fin τ.nSC) : Buf (Elt F) (shLoc d c) := m (xLoc d)

/-- Where tile `(c, i)`'s rows of the result start, and how many they are. -/
def base (c i : ℕ) : ℕ := 6240 * i + 3120 * c
def len (c i : ℕ) : ℕ := if 2 * i + c = 31 then 3280 else 3120
/-- Tile `(c, i)`'s rows of the result. -/
abbrev tileOut (c i : ℕ) : Finset S100000x128.Idx := oRows (base c i) (len c i)
/-- The rows of the table that the tile with number `i` copies to its SparseCore's shared memory. -/
abbrev chunk (i : ℕ) : Finset S10000x128.Idx := tRows (624 * i) (if i = 15 then 640 else 624)
/-- Tile `(c, i)`'s share of the table and of the list, and a tile's share of the shared memory. -/
abbrev cq (c : ℕ) : PosShare TreeShare := cut fullShare 2 c
abbrev tq (c i : ℕ) : PosShare TreeShare := cut (cq c) 16 i
abbrev shq (i : ℕ) : PosShare TreeShare := cut fullShare 16 i

variable [FloatOps F]

/-! ## The barrier -/

/-- The barrier semaphore of tile `(c, j)` of device `d`. -/
abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

/-- Is the semaphore a tile's barrier semaphore? -/
def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

/-- What tile `n`'s arrival at tile `j`'s barrier semaphore hands over: tile `j`'s share of the rows that tile `n` has
    copied to the shared memory. -/
def bPay (g : GSem nD τ sig) (n : ℕ) : sProp 𝕄 :=
  match g with
  | ((d, .scVector c j), _) => iprop(shLoc d c ↦[chunk n]{shq j.val} shTab m d c)
  | _ => iprop(emp)

/-- The barrier's schedule: one round on each tile's semaphore, of one unit from each tile of the SparseCore. -/
def bRd : Rounds.Schedule (GSem nD τ sig) ℕ 𝕄 where
  duties g r := if isBar g ∧ r = 0 then (Finset.univ : Finset (Fin τ.nSub)).image Fin.val else ∅
  amount _ _ _ := 1
  payload g _ n := bPay m g n
  amount_pos _ _ _ _ := Nat.one_pos

instance bRd_payload_storable (g : GSem nD τ sig) (r n : ℕ) : BI.Storable (upEmb : UEmb _ 𝕄) ((bRd m).payload g r n) := by
  show BI.Storable upEmb (bPay m g n)
  unfold bPay
  rcases g with ⟨⟨d, _ | c | ⟨c, i⟩⟩, sm⟩ <;> dsimp only <;> infer_instance

omit [FloatOps F] in
theorem bRd_duties₀ (d : Dev nD) (c : Fin τ.nSC) (j : Fin τ.nSub) : (bRd m).duties (bcell d c j) 0 = (Finset.univ : Finset (Fin τ.nSub)).image Fin.val := by
  simp [bRd, isBar]
omit [FloatOps F] in
theorem bRd_duties_succ (g : GSem nD τ sig) (r : ℕ) (hr : 1 ≤ r) : (bRd m).duties g r = ∅ :=
  if_neg fun h => absurd h.2 (Nat.ne_of_gt hr)
omit [FloatOps F] in
theorem bRd_mem₀ (d : Dev nD) (c : Fin τ.nSC) (j i : Fin τ.nSub) : i.val ∈ (bRd m).duties (bcell d c j) 0 := by
  rw [bRd_duties₀]; exact Finset.mem_image_of_mem _ (Finset.mem_univ i)
omit [FloatOps F] in
theorem bRd_expect (d : Dev nD) (c : Fin τ.nSC) (j : Fin τ.nSub) : 0 + grid0.bound 1 = (bRd m).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What a tile of SparseCore `c` owes for the barrier: a unit on each tile's semaphore. -/
def oxV (d : Dev nD) (c : Fin τ.nSC) : CellTallies nD τ sig (HIx 1) := ∑ j : Fin (grid0.bound 1), tallyAt (bcell d c (j.castLE hsub0)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) : ∃ j : Fin (grid0.bound 1), g = bcell d c (j.castLE hsub0) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- Tile `(c, i)`'s means for the barrier: every tile's semaphore's invariant and that it has reached round 0, its own
    position in its own, its token for each of its arrivals, and the credit for its wait. -/
def bkit (d : Dev nD) (c : Fin τ.nSC) (i : Fin τ.nSub) : sProp 𝕄 :=
  iprop((∃ κ : GSem nD τ sig → ℕ, bigSep Finset.univ fun j : Fin (grid0.bound 1) =>
      cellInv EB (bRd m) (κ (bcell d c (j.castLE hsub0))) (bcell d c (j.castLE hsub0)))
    ∗ (bigSep Finset.univ fun j : Fin (grid0.bound 1) => dutyTok EB (bcell d c (j.castLE hsub0)) 0 i.val)
    ∗ (bigSep Finset.univ fun j : Fin (grid0.bound 1) => reached EB (bcell d c (j.castLE hsub0)) 0)
    ∗ atPos EB (bcell d c i) 0 ∅ 0
    ∗ cred (tallyAt (bcell d c i) (some 0) (grid0.bound 1)))

/-! ## What the handshakes carry -/

/-- The table and the list at a share, rows of the result and of the shared memory. -/
abbrev xPts (d : Dev nD) (q : PosShare TreeShare) : sProp 𝕄 := xLoc d ↦{q} m (xLoc d)
abbrev iPts (d : Dev nD) (q : PosShare TreeShare) : sProp 𝕄 := iLoc d ↦{q} m (iLoc d)
abbrev oPts (d : Dev nD) (I : Finset S100000x128.Idx) (f : Buf (Elt F) (oLoc d)) : sProp 𝕄 := oLoc d ↦[I]{fullShare} f
abbrev shPts (d : Dev nD) (c : Fin τ.nSC) (q : PosShare TreeShare) : sProp 𝕄 := shLoc d c ↦{q} shTab m d c
/-- The barrier semaphores of SparseCore `c`'s tiles, at zero. -/
abbrev bars (d : Dev nD) (c : Fin ((K (F := F)).nCore 0)) : sProp 𝕄 :=
  bigSep Finset.univ fun i : Fin ((K (F := F)).nSub 0) => semVal (bcell d (coreOf c) ((K (F := F)).sub 0 i)) 0

/-- What the call hands SparseCore `c`: half of the table's and of the list's share, and its tiles' rows of the result. -/
abbrev stPay (d : Dev nD) (c : ℕ) (f : Buf (Elt F) (oLoc d)) : sProp 𝕄 :=
  iprop(xPts m d (cq c) ∗ iPts m d (cq c) ∗ bigSep Finset.univ fun i : Fin 16 => oPts d (tileOut c i.val) f)
/-- What a sequencer hands its tile `i`: a share of the table and of the list, the tile's rows of the result, and rows
    of the shared memory. -/
abbrev goPay (d : Dev nD) (c : Fin τ.nSC) (i : ℕ) : sProp 𝕄 :=
  iprop(xPts m d (tq c.val i) ∗ iPts m d (tq c.val i) ∗ oPts d (tileOut c.val i) (m (oLoc d)) ∗ ∃ f, shLoc d c ↦[chunk i]{fullShare} f)
/-- What it gets back: the rows of the result written, and a share of all the shared memory. -/
abbrev tdPay (d : Dev nD) (c : Fin τ.nSC) (i : ℕ) : sProp 𝕄 :=
  iprop(xPts m d (tq c.val i) ∗ iPts m d (tq c.val i) ∗ oPts d (tileOut c.val i) (OUT m d) ∗ shPts m d c (shq i))

set_option backward.proofsInPublic true in
/-- What each handshake of the one call carries. -/
def P : (K (F := F)).Pay (nD := nD) (Val := Elt F) (Name := ℕ) (U := UU) where
  st := fun q d c => match q with | 0 => stPay m d (coreOf c).val (m (oLoc d))
  dn := fun q d c => match q with | 0 => iprop(stPay m d (coreOf c).val (OUT m d) ∗ bars d c)
  go := fun q d c i => match q with | 0 => goPay m d (coreOf c) i.val
  td := fun q d c i => match q with
    | 0 => iprop(tdPay m d (coreOf c) i.val ∗ semVal (bcell d (coreOf c) ((K (F := F)).sub 0 i)) 0)
  x := fun _ thr => match thr with
    | (d, .scVector c i) => bkit m d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨j, rfl, rfl⟩ := oxV_apply_pos h
      rw [(K (F := F)).lev_V_reg d c (j.castLE hsub0) (show (sc_bar0 : Sem sig) ≠ (K (F := F)).go from sc_bar0_ne_go)]; exact ⟨le_rfl, by decide⟩
  ox_tc := fun _ _ => rfl
  ox_sc := fun _ _ _ h => absurd rfl h
  ox_vc := by
    intro q d c i _
    obtain rfl : q = 0 := Subsingleton.elim _ _
    exact ⟨rfl, c.isLt, i.isLt⟩

instance P_storable : (P (F := F) m).IsStorable where
  st q d c := match q with
    | 0 => (inferInstance : BI.Storable (upEmb : UEmb _ 𝕄) (stPay m d (coreOf c).val (m (oLoc d))))
  dn q d c := match q with
    | 0 => (inferInstance : BI.Storable (upEmb : UEmb _ 𝕄) iprop(stPay m d (coreOf c).val (OUT m d) ∗ bars d c))
  go q d c i := match q with
    | 0 => (inferInstance : BI.Storable (upEmb : UEmb _ 𝕄) (goPay m d (coreOf c) i.val))
  td q d c i := match q with
    | 0 => (inferInstance : BI.Storable (upEmb : UEmb _ 𝕄) iprop(tdPay m d (coreOf c) i.val ∗ semVal _ 0))

end Cert.Proof
-- ==== Proof.Steps.lean ====
/-
  The steps of a tile, each once and over any buffers: issuing an indirect gather, issuing the copy of a filled buffer,
  waiting for either, and a copy that is waited for at once.
-/
module

public import proofs.«01_k».proof.Proof.Setup

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Over any buffers -/

section Generic

variable (d : Dev nD) (c : Fin τ.nSC) (j : Fin τ.nSub)

/-- A buffer of the tile that holds `v`, and one that holds anything. -/
def Filled {s : Shape} {e : EltTy} (R : Memref sig .scVector .vmem s e) (v : s.Idx → Elt F e) : sProp 𝕄 :=
  iprop(∃ f, ⌜R.view.read (Elt F) f = v⌝ ∗ R.view.loc (V d c j) ↦[R.view.set]{fullShare} f)
def Free {s : Shape} {e : EltTy} (R : Memref sig .scVector .vmem s e) : sProp 𝕄 :=
  iprop(∃ f, R.view.loc (V d c j) ↦[R.view.set]{fullShare} f)

theorem Filled.free {s : Shape} {e : EltTy} (R : Memref sig .scVector .vmem s e) (v : s.Idx → Elt F e) : Filled d c j R v ⊢ Free (F := F) d c j R := by
  unfold Filled Free
  iintro ⟨%f, -, H⟩
  iexists f; iexact H

/-- The tile owes `O`, may wait on its transfers' semaphores while it does, and has waited, since it had waited for `W`,
    on nothing but those and its barrier semaphore. -/
def Owes (O : CellTallies nD τ sig (HIx 1)) (W : Waits sig (HIx 1)) : sProp 𝕄 :=
  iprop(Transfers.MayWaits (V d c j) (default : HIx 1) O
    ∗ ∃ W', ⌜∀ p ∈ W', p ∈ W ∨ p.2 = none ∨ p.2 = some (0 : Fin 1)⌝ ∗ owes (V d c j) O W')

/-- A transfer of `n` units in flight on the tile's semaphore `sem`, which delivers `D` when it is waited for. -/
abbrev Fly (sem : DmaSem sig) (n : ℕ) (D : sProp 𝕄) : sProp 𝕄 := Transfers.Flight countersEmb (V d c j) (.dma sem) (default : HIx 1) n D

/-- The semaphore is at zero. -/
abbrev Zero (sem : DmaSem sig) : sProp 𝕄 := semVal (V d c j, SemLoc.dma sem) 0

variable [FloatOps F] {α : Type} {Q : α → sProp (MT nD τ sig (HIx 1) (Elt F) ℕ UU ℕ)}

/-- The program `p` runs on the tile and ends in `Q`. -/
abbrev Runs (p : Prog (TpuEff nD τ sig (Elt F) Λ₀ (.scVector c j)) α) (Q : α → sProp 𝕄) : sProp 𝕄 :=
  wp frame (wpE (defs₀ (F := F)) 𝒱₀ (V d c j) none) Set.univ p Q

variable {O : CellTallies nD τ sig (HIx 1)} {W : Waits sig (HIx 1)}

/-- Waiting for a transfer in flight: what it delivers, and the semaphore back at zero. -/
theorem wait_step {sp sp' : Space} {s s' : Shape} {e e' : EltTy} {κ' : Kind} {sem : DmaSem sig}
    {srcw : Memref sig .scVector sp' s' e'} {dstw : Memref sig κ' sp s e} {hsrc : srcw.view.WordExact} {hdst : dstw.view.WordExact}
    {k : PUnit → Prog (TpuEff nD τ sig (Elt F) Λ₀ (.scVector c j)) α} {n : ℕ} (hn : dstw.view.dmaCredit = n) {D : sProp 𝕄} :
    iprop(Fly d c j sem n D ∗ Owes d c j O W)
      ⊢ iprop((iprop(D ∗ Zero d c j sem ∗ Owes d c j O W) -∗ Runs d c j (k ⟨⟩) Q)
          -∗ Runs d c j (Prog.lift (.waitDma2 sem srcw dstw hsrc hdst) >>= k) Q) := by
  unfold Owes
  iintro ⟨Hf, #Hmw, %W', %hW', HO⟩ Hk
  iapply (Transfers.wp_waitLocalO countersEmb 𝒱₀ (V d c j) none (default : HIx 1) hn) $$ [Hf HO]
  · isplitl [Hf]; · iexact Hf
    isplitl [HO]; · iexact HO
    iapply (Transfers.MayWaits.elim (SemLoc.dma sem)) $$ Hmw
  iintro ⟨HD, Hz, HO⟩
  iapply Hk
  isplitl [HD]; · iexact HD
  isplitl [Hz]; · iexact Hz
  isplitr; · iexact Hmw
  iexists _; isplitr
  swap; · iexact HO
  ipureintro; intro p hp
  rcases Finset.mem_insert.mp hp with hp | hp
  · exact .inr (.inl (hp ▸ rfl))
  · exact hW' p hp

/-- Issuing an indirect gather: the source at a share, the buffer it fills, the list's elements `S`, among them those
    it reads, and its semaphore at zero go in; the buffer will be filled with `v`. -/
theorem gather_step {sp : Space} {s₀ s si : Shape} {e : EltTy} {a : ℕ}
    {src : Memref sig .scVector sp s₀ e} {R : Memref sig .scVector .vmem s e} {hg : s₀.Gathers a s}
    {offs : Memref sig .scVector .vmem si .i32} {hn : si.numel = s.size hg.axis'} {sem : DmaSem sig}
    {hp : (Kind.scVector) = .scVector} {hsrc : src.view.WordExact} {he : e.bits = 32} {hsp : sp = .hbm ∨ sp = .shared} {hr : s₀.StreamRows a}
    {k : PUnit → Prog (TpuEff nD τ sig (Elt F) Λ₀ (.scVector c j)) α}
    {q : PosShare TreeShare} {fs : Buf (Elt F) (src.view.loc (V d c j))} {fo : Buf (Elt F) (offs.view.loc (V d c j))}
    {S : Finset (Idx (offs.view.loc (V d c j)))} (hS : offs.view.set ⊆ S)
    {n : ℕ} (hN : ∑ j, (R.slice (s.rowRect hg.axis' j) (s.stride_rowRect hg.axis' j)).view.dmaCredit = n) (hs : 0 < s.numel)
    (hin : ∀ x, (offs.view.read (Elt F) fo x).toNat < s₀.size hg.axis)
    {v : s.Idx → Elt F e} (hv : SparseCore.gatherPayload hg (src.view.read (Elt F) fs) (SparseCore.rows (offs.view.read (Elt F) fo) hn hin) = v) :
    iprop((src.view.loc (V d c j) ↦[src.view.set]{q} fs) ∗ Free (F := F) d c j R
        ∗ (offs.view.loc (V d c j) ↦[S]{fullShare} fo) ∗ Zero d c j sem)
      ⊢ iprop((iprop(Fly d c j sem n iprop(Filled d c j R v ∗ (src.view.loc (V d c j) ↦[src.view.set]{q} fs)
                    ∗ (offs.view.loc (V d c j) ↦[offs.view.set]{fullShare} fo))
                ∗ (offs.view.loc (V d c j) ↦[S \ offs.view.set]{fullShare} fo)) -∗ Runs d c j (k ⟨⟩) Q)
          -∗ Runs d c j (SparseCore.enqueueIndirectGather hp src R hg offs hn sem hsrc he hsp hr >>= k) Q) := by
  unfold Free
  iintro ⟨Hs, ⟨%fd, Hd⟩, Ho, Hz⟩ Hk
  ihave Ho' := (pointsTo_split_subset (q := fullShare) (f := fo) hS).1 $$ Ho
  icases Ho' with ⟨Ho, Hrest⟩
  iapply (SparseCore.wp_indirectGatherLocal countersEmb 𝒱₀ (V d c j) none (hg := hg) (default : HIx 1) n hN hs hin) $$ [Hs Hd Ho Hz]
  · isplitl [Hs]; · iexact Hs
    isplitl [Hd]; · iexact Hd
    isplitl [Ho]; · iexact Ho
    iexact Hz
  iintro Hf
  iapply Hk
  isplitl [Hf]
  · iapply (Transfers.Flight_mono countersEmb (V d c j) (show _ ⊢ _ from ?_)) $$ Hf
    unfold Filled
    iintro ⟨Hd, Hs, Ho⟩
    isplitl [Hd]
    · iexists _; isplitr
      swap; · iexact Hd
      ipureintro; rw [View.read_write_univ]; exact hv
    isplitl [Hs]; · iexact Hs
    iexact Ho
  iexact Hrest

/-- Issuing the copy of a filled buffer to elements of another: they will hold what reads as `v`. -/
theorem write_step {sp : Space} {s : Shape} {e : EltTy} {R : Memref sig .scVector .vmem s e} {dst : Memref sig (V d c j).2.kind sp s e} {sem : DmaSem sig}
    {hsrc : R.view.WordExact} {hdst : dst.view.WordExact} {hsem : DmaTarget.Typed (nD := nD) (τ := τ) (p := (V d c j).2) .vmem (.dma sem) (.here dst)}
    {k : PUnit → Prog (TpuEff nD τ sig (Elt F) Λ₀ (.scVector c j)) α} {fd g : Buf (Elt F) (dst.view.loc (V d c j))} {v : s.Idx → Elt F e}
    {n : ℕ} (hN : dst.view.dmaCredit = n) (hs : 0 < s.numel) (hg : dst.view.read (Elt F) g = v) :
    iprop(Filled d c j R v ∗ (dst.view.loc (V d c j) ↦[dst.view.set]{fullShare} fd) ∗ Zero d c j sem)
      ⊢ iprop((Fly d c j sem n iprop(Free (F := F) d c j R ∗ (dst.view.loc (V d c j) ↦[dst.view.set]{fullShare} g)) -∗ Runs d c j (k ⟨⟩) Q)
          -∗ Runs d c j (Prog.lift (.enqueueDma R (.here dst) (.dma sem) hsrc hdst hsem) >>= k) Q) := by
  unfold Filled Free
  iintro ⟨⟨%f, %hf, Hs⟩, Hd, Hz⟩ Hk
  iapply (Transfers.wp_dmaLocal countersEmb 𝒱₀ (V d c j) none (via := ReadAs.same) (default : HIx 1) n (show dst.view.amount (.dma sem) = n from hN) (hN ▸ View.dmaCredit_pos _ hs) Finset.Subset.rfl) $$ [Hs Hd Hz]
  · isplitl [Hs]; · iexact Hs
    isplitl [Hd]; · iexact Hd
    iexact Hz
  iintro Hf
  iapply Hk
  iapply (Transfers.Flight_mono countersEmb (V d c j) (show _ ⊢ _ from ?_)) $$ Hf
  iintro ⟨Hd, Hs⟩
  isplitl [Hs]; · iexists f; iexact Hs
  iapply (Entails.of_eq (pointsTo_congr fun i hi => ?_)) $$ Hd
  obtain ⟨x, -, rfl⟩ := Finset.mem_map.mp hi
  rw [View.write_emb_of_mem _ _ (Finset.mem_univ x)]
  have h : R.view.read (Elt F) f x = dst.view.read (Elt F) g x := by rw [hf, hg]
  show _root_.cast _ (R.view.read (Elt F) f x) = _
  rw [h, View.read_apply, cast_cast, cast_eq]

/-- A copy that is waited for at once: the elements it goes to hold what reads as the source. -/
theorem stage_step {sp sp' : Space} {s : Shape} {e : EltTy} {src : Memref sig .scVector sp' s e} {dst : Memref sig (V d c j).2.kind sp s e} {sem : DmaSem sig}
    {hsrc : src.view.WordExact} {hdst : dst.view.WordExact} {hsem : DmaTarget.Typed (nD := nD) (τ := τ) (p := (V d c j).2) sp' (.dma sem) (.here dst)}
    {hsrc' : src.view.WordExact} {hdst' : dst.view.WordExact}
    {k : PUnit → Prog (TpuEff nD τ sig (Elt F) Λ₀ (.scVector c j)) α} {q : PosShare TreeShare} {fs : Buf (Elt F) (src.view.loc (V d c j))}
    {S : Finset (Idx (src.view.loc (V d c j)))} (hS : src.view.set ⊆ S) {g : Buf (Elt F) (dst.view.loc (V d c j))}
    (hs : 0 < s.numel) (hg : dst.view.read (Elt F) g = src.view.read (Elt F) fs) :
    iprop((src.view.loc (V d c j) ↦[S]{q} fs) ∗ (∃ fd, dst.view.loc (V d c j) ↦[dst.view.set]{fullShare} fd) ∗ Zero d c j sem ∗ Owes d c j O W)
      ⊢ iprop((iprop((src.view.loc (V d c j) ↦[S]{q} fs) ∗ (dst.view.loc (V d c j) ↦[dst.view.set]{fullShare} g) ∗ Zero d c j sem ∗ Owes d c j O W)
              -∗ Runs d c j (k ⟨⟩) Q)
          -∗ Runs d c j (Prog.lift (.enqueueDma src (.here dst) (.dma sem) hsrc hdst hsem) >>= fun _ =>
              Prog.lift (.waitDma2 sem src dst hsrc' hdst') >>= k) Q) := by
  iintro ⟨Hs, ⟨%fd, Hd⟩, Hz, HO⟩ Hk
  ihave Hs' := (pointsTo_split_subset (q := q) (f := fs) hS).1 $$ Hs
  icases Hs' with ⟨Hs, Hrest⟩
  iapply (Transfers.wp_dmaLocal countersEmb 𝒱₀ (V d c j) none (via := ReadAs.same) (default : HIx 1) dst.view.dmaCredit rfl (View.dmaCredit_pos _ hs) Finset.Subset.rfl) $$ [Hs Hd Hz]
  · isplitl [Hs]; · iexact Hs
    isplitl [Hd]; · iexact Hd
    iexact Hz
  iintro Hf
  iapply (wait_step d c j (srcw := src) (dstw := dst) (hsrc := hsrc') (hdst := hdst') rfl) $$ [Hf HO]
  · isplitl [Hf]; · iexact Hf
    iexact HO
  iintro ⟨⟨Hd, Hs⟩, Hz, HO⟩
  iapply Hk
  isplitl [Hs Hrest]
  · iapply (pointsTo_split_subset hS).2
    isplitl [Hs]; · iexact Hs
    iexact Hrest
  isplitl [Hd]
  · iapply (Entails.of_eq (pointsTo_congr fun i hi => ?_)) $$ Hd
    obtain ⟨x, -, rfl⟩ := Finset.mem_map.mp hi
    rw [View.write_emb_of_mem _ _ (Finset.mem_univ x)]
    show _root_.cast _ (src.view.read (Elt F) fs x) = _
    rw [← hg, View.read_apply, cast_cast, cast_eq]
  isplitl [Hz]; · iexact Hz
  iexact HO

end Generic

end Cert.Proof
-- ==== Proof.Visits.lean ====
/-
  This kernel's buffers and steps: which elements its slices name, what a gather of a stretch of the list leaves in a
  buffer (`visit`), and the steps of `Steps` at these buffers.
-/
module

public import proofs.«01_k».proof.Proof.Steps

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_arg0_scv : Memref Cert.KernelIdeal.sig Kind.scVector Space.hbm Cert.KernelIdeal.S10000x128 EltTy.f32)
local notation "iV" => (Memref.whole Cert.KernelIdeal.main_arg1_scv : Memref Cert.KernelIdeal.sig Kind.scVector Space.hbm Cert.KernelIdeal.S100000 EltTy.i32)
local notation "oV" => (Memref.whole Cert.KernelIdeal.main_v0_scv : Memref Cert.KernelIdeal.sig Kind.scVector Space.hbm Cert.KernelIdeal.S100000x128 EltTy.f32)
local notation "shV" => (Memref.whole Cert.KernelIdeal.cc0_scratch0 : Memref Cert.KernelIdeal.sig Kind.scVector Space.shared Cert.KernelIdeal.S10000x128 EltTy.f32)
local notation "lV" => (Memref.whole Cert.KernelIdeal.cc0_scratch1 : Memref Cert.KernelIdeal.sig Kind.scVector Space.vmem Cert.KernelIdeal.S3280 EltTy.i32)
local notation "r0V" => (Memref.whole Cert.KernelIdeal.cc0_scratch2 : Memref Cert.KernelIdeal.sig Kind.scVector Space.vmem Cert.KernelIdeal.S104x128 EltTy.f32)
local notation "r1V" => (Memref.whole Cert.KernelIdeal.cc0_scratch3 : Memref Cert.KernelIdeal.sig Kind.scVector Space.vmem Cert.KernelIdeal.S104x128 EltTy.f32)
local notation "r2V" => (Memref.whole Cert.KernelIdeal.cc0_scratch4 : Memref Cert.KernelIdeal.sig Kind.scVector Space.vmem Cert.KernelIdeal.S104x128 EltTy.f32)

/-! ## The elements of a slice -/

/-- A slice of a whole buffer is the rectangle. -/
theorem set_whole_slice {κ : Kind} (b : Ref sig κ) (r : Rect b.ty.shape) : ((View.whole b).slice r).set = r.set := by
  rw [View.set_slice]; exact Finset.map_refl

/-- A rectangle of whole rows is a band. -/
theorem rect_rows {N b h : ℕ} {off : Fin 2 → ℕ} {inb} (ho : off = ![b, 0]) :
    (Rect.unit (s := ⟨2, ![N, 128]⟩) off (⟨2, ![h, 128]⟩ : Shape).size inb).set = band ⟨2, ![N, 128]⟩ 0 b h := by
  subst ho
  ext x
  rw [Rect.mem_set_unit, mem_band]
  constructor
  · intro H; exact H 0
  · intro H a
    match a with
    | 0 => exact H
    | 1 => exact ⟨Nat.zero_le _, by have h1 : (x 1).val < 128 := (x 1).isLt; show (x 1).val < 0 + 128; omega⟩

/-- A rectangle of entries is a band. -/
theorem rect_ents {N b h : ℕ} {off : Fin 1 → ℕ} {inb} (ho : off = ![b]) :
    (Rect.unit (s := ⟨1, ![N]⟩) off (⟨1, ![h]⟩ : Shape).size inb).set = band ⟨1, ![N]⟩ 0 b h := by
  subst ho
  ext x
  rw [Rect.mem_set_unit, mem_band]
  constructor
  · intro H; exact H 0
  · intro H a
    match a with
    | 0 => exact H

theorem set_out {b h : ℕ} {off : Fin 2 → ℕ} {inb} (ho : off = ![b, 0]) :
    ((oV).slice (Rect.unit (s := S100000x128) off (⟨2, ![h, 128]⟩ : Shape).size inb) (fun _ => rfl)).view.set = oRows b h :=
  (set_whole_slice _ _).trans (rect_rows ho)
theorem set_x {b h : ℕ} {off : Fin 2 → ℕ} {inb} (ho : off = ![b, 0]) :
    ((xV).slice (Rect.unit (s := S10000x128) off (⟨2, ![h, 128]⟩ : Shape).size inb) (fun _ => rfl)).view.set = tRows b h :=
  (set_whole_slice _ _).trans (rect_rows ho)
theorem set_sh {b h : ℕ} {off : Fin 2 → ℕ} {inb} (ho : off = ![b, 0]) :
    ((shV).slice (Rect.unit (s := S10000x128) off (⟨2, ![h, 128]⟩ : Shape).size inb) (fun _ => rfl)).view.set = tRows b h :=
  (set_whole_slice _ _).trans (rect_rows ho)
theorem set_l {b h : ℕ} {off : Fin 1 → ℕ} {inb} (ho : off = ![b]) :
    ((lV).slice (Rect.unit (s := S3280) off (⟨1, ![h]⟩ : Shape).size inb) (fun _ => rfl)).view.set = ents b h :=
  (set_whole_slice _ _).trans (rect_ents ho)
theorem tRows_full : tRows 0 10000 = Finset.univ := band_full (Nat.le_refl _)

/-- The whole table, as the gathers name it, and the whole of the shared memory. -/
abbrev xAll : Memref sig .scVector .hbm S10000x128 .f32 :=
  (xV).slice (Rect.unit (s := S10000x128) ![0, 0] S10000x128.size inb_S10000x128_S10000x128_0_0) (fun _ => rfl)
abbrev shAll : Memref sig .scVector .shared S10000x128 .f32 :=
  (shV).slice (Rect.unit (s := S10000x128) ![0, 0] S10000x128.size inb_S10000x128_S10000x128_0_0) (fun _ => rfl)

theorem set_xAll : (xAll).view.set = Finset.univ := (set_x (h := 10000) rfl).trans tRows_full
theorem set_shAll : (shAll).view.set = Finset.univ := (set_sh (h := 10000) rfl).trans tRows_full

/-! ## What a visit leaves -/

variable (m : (ℓ : Loc nD τ sig) → Buf (Elt F) ℓ) (d : Dev nD) (L : grid0.Coords)

/-- The tile's SparseCore and subcore. -/
abbrev cV : Fin τ.nSC := (L 0).castLE hcore0
abbrev jV : Fin τ.nSub := (L 1).castLE hsub0
/-- The first of its rows of the result. -/
abbrev bs : ℕ := base (L 0).val (L 1).val

theorem L0_lt : (L 0).val < 2 := (L 0).isLt
theorem L1_lt : (L 1).val < 16 := (L 1).isLt

/-- Rows `b, …, b + h - 1` of the result. -/
def visit (h b : ℕ) : (⟨2, ![h, 128]⟩ : Shape).Idx → Elt F .f32 := fun x => (OUT m d : S100000x128.Idx → Elt F .f32) (oIx (b + (x 0).val) (x 1))

/-- The tile's copy of its part of the list. -/
def listBuf : Buf (Elt F) ((lV).view.loc (V d (cV L) (jV L))) := fun (x : S3280.Idx) => (m (iLoc d) (iIx (bs L + (x 0).val)) : Elt F .i32)

/-- Elements of that copy. -/
abbrev lPts (S : Finset S3280.Idx) : sProp 𝕄 := (lV).view.loc (V d (cV L) (jV L)) ↦[S]{fullShare} listBuf m d L

/-- A slice of the result reads as its rows. -/
theorem read_out {b h : ℕ} {off : Fin 2 → ℕ} {inb} (ho : off = ![b, 0]) (hb : b + h ≤ 100000) :
    ((oV).slice (Rect.unit (s := S100000x128) off (⟨2, ![h, 128]⟩ : Shape).size inb) (fun _ => rfl)).view.read (Elt F) (OUT m d) = visit m d h b := by
  subst ho
  funext x
  rw [View.read_apply]
  refine (cast_eq _ _).trans (congrArg (OUT m d : S100000x128.Idx → Elt F .f32) ?_)
  have h0 : (x 0).val < h := (x 0).isLt
  funext a
  apply Fin.ext
  match a with
  | 0 =>
    show b + 1 * (x 0).val = (b + (x 0).val) % 100000
    rw [Nat.mod_eq_of_lt (by omega)]; omega
  | 1 => show 0 + 1 * (x 1).val = (x 1).val; omega

theorem read_xAll (f : Buf (Elt F) (xLoc d)) : (xAll).view.read (Elt F) f = f := by
  funext x
  rw [View.read_apply]
  refine (cast_eq _ _).trans (congrArg (f : S10000x128.Idx → Elt F .f32) ?_)
  funext a
  apply Fin.ext
  match a with
  | 0 => show 0 + 1 * (x 0).val = (x 0).val; omega
  | 1 => show 0 + 1 * (x 1).val = (x 1).val; omega

theorem read_shAll (c : Fin τ.nSC) (f : Buf (Elt F) (shLoc d c)) : (shAll).view.read (Elt F) f = f := by
  funext x
  rw [View.read_apply]
  refine (cast_eq _ _).trans (congrArg (f : S10000x128.Idx → Elt F .f32) ?_)
  funext a
  apply Fin.ext
  match a with
  | 0 => show 0 + 1 * (x 0).val = (x 0).val; omega
  | 1 => show 0 + 1 * (x 1).val = (x 1).val; omega

/-- A stretch of the tile's list, read. -/
theorem read_list {b h : ℕ} {off : Fin 1 → ℕ} {inb} (ho : off = ![b]) (y : (⟨1, ![h]⟩ : Shape).Idx) :
    ((lV).slice (Rect.unit (s := S3280) off (⟨1, ![h]⟩ : Shape).size inb) (fun _ => rfl)).view.read (Elt F) (listBuf m d L) y
      = (m (iLoc d) (iIx (bs L + (b + (y 0).val))) : Elt F .i32) := by
  subst ho
  rw [View.read_apply]
  refine (cast_eq _ _).trans ?_
  show (m (iLoc d) (iIx (bs L + (b + 1 * (y 0).val))) : Elt F .i32) = _
  rw [Nat.one_mul]

theorem list_lt (hpre : PreOK m) {b h : ℕ} {off : Fin 1 → ℕ} {inb} (ho : off = ![b]) (y : (⟨1, ![h]⟩ : Shape).Idx) :
    (((lV).slice (Rect.unit (s := S3280) off (⟨1, ![h]⟩ : Shape).size inb) (fun _ => rfl)).view.read (Elt F) (listBuf m d L) y : BitVec 32).toNat < 10000 := by
  rw [read_list m d L ho]; exact hpre d _

/-- What a gather of the table's rows by a stretch of the list delivers: rows of the result. -/
theorem gather_val (hpre : PreOK m) {b h : ℕ} {off : Fin 1 → ℕ} {inb} (ho : off = ![b]) (hb : bs L + (b + h) ≤ 100000)
    (hg : S10000x128.Gathers 0 (⟨2, ![h, 128]⟩ : Shape)) (hn : (⟨1, ![h]⟩ : Shape).numel = (⟨2, ![h, 128]⟩ : Shape).size hg.axis')
    (g : S10000x128.Idx → Elt F .f32) (hgx : g = m (xLoc d)) (hin) :
    SparseCore.gatherPayload hg g
        (SparseCore.rows (((lV).slice (Rect.unit (s := S3280) off (⟨1, ![h]⟩ : Shape).size inb) (fun _ => rfl)).view.read (Elt F) (listBuf m d L)) hn hin)
      = visit m d h (bs L + b) := by
  subst hgx
  funext x
  have h0 : (x 0).val < h := (x 0).isLt
  unfold SparseCore.gatherPayload visit OUT
  refine congrArg (m (xLoc d) : S10000x128.Idx → Elt F .f32) ?_
  have key : ∀ k : Fin ((⟨2, ![h, 128]⟩ : Shape).size hg.axis'), (((⟨1, ![h]⟩ : Shape).rowMajor.symm (k.cast hn.symm)) 0).val = k.val := fun k => by
    rw [← Shape.rowMajor_val_one, Equiv.apply_symm_apply]; rfl
  funext a
  apply Fin.ext
  match a with
  | 0 =>
    show (hg.idx _ x hg.axis).val = _
    rw [Shape.Gathers.idx_axis]
    unfold SparseCore.rows
    show (((lV).slice (Rect.unit (s := S3280) off (⟨1, ![h]⟩ : Shape).size inb) (fun _ => rfl)).view.read (Elt F) (listBuf m d L) _ : BitVec 32).toNat = _
    rw [read_list m d L ho]
    refine (congrArg (fun n => BitVec.toNat (m (iLoc d) (iIx (bs L + (b + n))) : BitVec 32)) (key (x hg.axis'))).trans ?_
    show BitVec.toNat (m (iLoc d) (iIx (bs L + (b + (x 0).val))) : BitVec 32) = BitVec.toNat (m (iLoc d) (iIx ((bs L + b + (x 0).val) % 100000)) : BitVec 32) % 10000
    rw [Nat.mod_eq_of_lt (hpre d _), Nat.mod_eq_of_lt (a := bs L + b + (x 0).val) (by omega), Nat.add_assoc]
  | 1 =>
    rw [Shape.Gathers.idx_of_ne hg _ x 1 (by decide)]
    rfl

end Cert.Proof
-- ==== Proof.Moves.lean ====
/-
  The steps of a tile as it makes them: a gather out of the shared memory by a stretch of its list, the copy of what it
  left to the next rows of the result, and the waits. The tile's rows of the result stay in three pieces: those written
  and waited for (`Done`), those of the copies in flight (`Wfly`), and those still to write (`Todo`).
-/
module

public import proofs.«01_k».proof.Proof.Visits

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_arg0_scv : Memref Cert.KernelIdeal.sig Kind.scVector Space.hbm Cert.KernelIdeal.S10000x128 EltTy.f32)
local notation "iV" => (Memref.whole Cert.KernelIdeal.main_arg1_scv : Memref Cert.KernelIdeal.sig Kind.scVector Space.hbm Cert.KernelIdeal.S100000 EltTy.i32)
local notation "oV" => (Memref.whole Cert.KernelIdeal.main_v0_scv : Memref Cert.KernelIdeal.sig Kind.scVector Space.hbm Cert.KernelIdeal.S100000x128 EltTy.f32)
local notation "shV" => (Memref.whole Cert.KernelIdeal.cc0_scratch0 : Memref Cert.KernelIdeal.sig Kind.scVector Space.shared Cert.KernelIdeal.S10000x128 EltTy.f32)
local notation "lV" => (Memref.whole Cert.KernelIdeal.cc0_scratch1 : Memref Cert.KernelIdeal.sig Kind.scVector Space.vmem Cert.KernelIdeal.S3280 EltTy.i32)
local notation "r0V" => (Memref.whole Cert.KernelIdeal.cc0_scratch2 : Memref Cert.KernelIdeal.sig Kind.scVector Space.vmem Cert.KernelIdeal.S104x128 EltTy.f32)
local notation "r1V" => (Memref.whole Cert.KernelIdeal.cc0_scratch3 : Memref Cert.KernelIdeal.sig Kind.scVector Space.vmem Cert.KernelIdeal.S104x128 EltTy.f32)
local notation "r2V" => (Memref.whole Cert.KernelIdeal.cc0_scratch4 : Memref Cert.KernelIdeal.sig Kind.scVector Space.vmem Cert.KernelIdeal.S104x128 EltTy.f32)

variable (m : (ℓ : Loc nD τ sig) → Buf (Elt F) ℓ) (d : Dev nD) (L : grid0.Coords)

/-- How many rows the tile has. -/
abbrev ln : ℕ := len (L 0).val (L 1).val

theorem ln_ge : 3120 ≤ ln L := by unfold ln len; split <;> omega
theorem ln_le : ln L ≤ 3280 := by unfold ln len; split <;> omega
theorem bs_ln_le : bs L + ln L ≤ 100000 := by
  have := L0_lt L; have := L1_lt L
  unfold bs ln base len; split <;> omega

/-- The part of its copy of the list that the tile reads. -/
abbrev lAll : Finset S3280.Idx := ents 0 (ln L)

/-- The tile's first `r` rows of the result, written; and the rows from its row `r` on, as they were. -/
abbrev Done (r : ℕ) : sProp 𝕄 := oPts d (oRows (bs L) r) (OUT m d)
abbrev Todo (r : ℕ) : sProp 𝕄 := oPts d (oRows (bs L + r) (ln L - r)) (m (oLoc d))
/-- The tile's share of the shared memory. -/
abbrev Sh : sProp 𝕄 := shPts m d (cV L) (shq (L 1).val)
/-- The tile's semaphore is at zero, its buffer is free, its buffer holds `h` rows of the result from its row `r` on. -/
abbrev Z (sem : DmaSem sig) : sProp 𝕄 := Zero d (cV L) (jV L) sem
abbrev Fr {h : ℕ} (R : Memref sig .scVector .vmem ⟨2, ![h, 128]⟩ .f32) : sProp 𝕄 := Free (F := F) d (cV L) (jV L) R
abbrev Full {h : ℕ} (R : Memref sig .scVector .vmem ⟨2, ![h, 128]⟩ .f32) (r : ℕ) : sProp 𝕄 := Filled d (cV L) (jV L) R (visit m d h (bs L + r))
abbrev Ow (O : CellTallies nD τ sig (HIx 1)) (W : Waits sig (HIx 1)) : sProp 𝕄 := Owes (F := F) d (cV L) (jV L) O W

/-- The gather in flight that fills `R` with `h` rows from the tile's row `r` on, read out of the shared memory. -/
def Gath {h : ℕ} (R : Memref sig .scVector .vmem ⟨2, ![h, 128]⟩ .f32) (sem : DmaSem sig) (r : ℕ) : sProp 𝕄 :=
  iprop(Fly d (cV L) (jV L) sem R.view.dmaCredit iprop(Full m d L R r ∗ Sh m d L ∗ lPts m d L (ents r h)) ∗ lPts m d L (lAll L \ ents r h))

/-- The units a copy of `h` rows to the result is counted in. -/
def nO (h : ℕ) : ℕ := sig.dmaCredit Kind.scVector (Kind.scVector.table .hbm) (oV).view.buf ⟨2, ![h, 128]⟩ .f32

/-- The copy in flight of `R` to `h` rows of the result from the tile's row `r` on. -/
def Wfly {h : ℕ} (R : Memref sig .scVector .vmem ⟨2, ![h, 128]⟩ .f32) (sem : DmaSem sig) (r : ℕ) : sProp 𝕄 :=
  Fly d (cV L) (jV L) sem (nO h) iprop(Fr (F := F) d L R ∗ oPts d (oRows (bs L + r) h) (OUT m d))

/-- The rows still to write, the next `h` of them taken off. -/
theorem todo_take {r h : ℕ} (hr : r + h ≤ ln L) : Todo m d L r ⊢ iprop(oPts d (oRows (bs L + r) h) (m (oLoc d)) ∗ Todo m d L (r + h)) := by
  have e : oRows (bs L + r) (ln L - r) = oRows (bs L + r) h ∪ oRows (bs L + (r + h)) (ln L - (r + h)) := by
    rw [show ln L - r = h + (ln L - (r + h)) by omega, ← Nat.add_assoc]; exact band_add _ _ _ _ _
  show (oLoc d ↦[oRows (bs L + r) (ln L - r)]{fullShare} m (oLoc d) : sProp 𝕄) ⊢ _
  rw [e]
  exact (pointsTo_union (band_disjoint (Or.inl (by omega)))).1

/-- The rows written, `h` more of them put in. -/
theorem done_put {r h : ℕ} : iprop(Done m d L r ∗ oPts d (oRows (bs L + r) h) (OUT m d)) ⊢ Done m d L (r + h) := by
  unfold Done oPts
  rw [show oRows (bs L) (r + h) = oRows (bs L) r ∪ oRows (bs L + r) h from band_add _ _ _ _ _]
  exact (pointsTo_union (band_disjoint (Or.inl le_rfl))).2

variable [FloatOps F] {α : Type} {Q : α → sProp (MT nD τ sig (HIx 1) (Elt F) ℕ UU ℕ)}
variable {O : CellTallies nD τ sig (HIx 1)} {W : Waits sig (HIx 1)}

/-- Issuing a gather out of the shared memory. -/
theorem gather_sh (hpre : PreOK m) {h r : ℕ} {R : Memref sig .scVector .vmem ⟨2, ![h, 128]⟩ .f32} {off : Fin 1 → ℕ} {inb} {sem : DmaSem sig}
    {hg : S10000x128.Gathers 0 (⟨2, ![h, 128]⟩ : Shape)} {hn : (⟨1, ![h]⟩ : Shape).numel = (⟨2, ![h, 128]⟩ : Shape).size hg.axis'}
    {hp : (Kind.scVector) = .scVector} {hsrc : (shAll).view.WordExact} {he : EltTy.f32.bits = 32} {hsp : Space.shared = .hbm ∨ Space.shared = .shared}
    {hrr : S10000x128.StreamRows 0} {k : PUnit → Prog (TpuEff nD τ sig (Elt F) Λ₀ (.scVector (cV L) (jV L))) α}
    (ho : off = ![r]) (hr : r + h ≤ ln L) (hs : 0 < (⟨2, ![h, 128]⟩ : Shape).numel)
    (hN : ∑ j, (R.slice ((⟨2, ![h, 128]⟩ : Shape).rowRect hg.axis' j) ((⟨2, ![h, 128]⟩ : Shape).stride_rowRect hg.axis' j)).view.dmaCredit = R.view.dmaCredit) :
    iprop(Sh m d L ∗ Fr (F := F) d L R ∗ lPts m d L (lAll L) ∗ Z (F := F) d L sem)
      ⊢ iprop((Gath m d L R sem r -∗ Runs d (cV L) (jV L) (k ⟨⟩) Q)
          -∗ Runs d (cV L) (jV L) (SparseCore.enqueueIndirectGather hp shAll R hg
              ((lV).slice (Rect.unit (s := S3280) off (⟨1, ![h]⟩ : Shape).size inb) (fun _ => rfl)) hn sem hsrc he hsp hrr >>= k) Q) := by
  have hb := bs_ln_le L
  have hS : ((lV).slice (Rect.unit (s := S3280) off (⟨1, ![h]⟩ : Shape).size inb) (fun _ => rfl)).view.set ⊆ lAll L := by
    rw [set_l ho]; exact band_subset (Nat.zero_le _) (by omega)
  have H := gather_step (F := F) d (cV L) (jV L) (src := shAll) (R := R) (hg := hg)
    (offs := (lV).slice (Rect.unit (s := S3280) off (⟨1, ![h]⟩ : Shape).size inb) (fun _ => rfl)) (hn := hn) (sem := sem) (hp := hp) (hsrc := hsrc)
    (he := he) (hsp := hsp) (hr := hrr) (k := k) (Q := Q) (q := shq (L 1).val) (fs := shTab m d (cV L)) (fo := listBuf m d L) hS hN hs
    (list_lt m d L hpre ho) (gather_val m d L hpre ho (by omega) hg hn _ (read_shAll d (cV L) _) _)
  rw [set_shAll, set_l ho] at H
  exact H

/-- Waiting for it. -/
theorem gath_wait {h r : ℕ} {R : Memref sig .scVector .vmem ⟨2, ![h, 128]⟩ .f32} {sem : DmaSem sig} {sp' : Space} {s' : Shape} {e' : EltTy}
    {src : Memref sig .scVector sp' s' e'} {hsrc : src.view.WordExact} {hdst : R.view.WordExact}
    {k : PUnit → Prog (TpuEff nD τ sig (Elt F) Λ₀ (.scVector (cV L) (jV L))) α} (hr : r + h ≤ ln L) :
    iprop(Gath m d L R sem r ∗ Ow d L O W)
      ⊢ iprop((iprop(Full m d L R r ∗ Sh m d L ∗ lPts m d L (lAll L) ∗ Z (F := F) d L sem ∗ Ow d L O W) -∗ Runs d (cV L) (jV L) (k ⟨⟩) Q)
          -∗ Runs d (cV L) (jV L) (SparseCore.waitIndirectGather sem src R hsrc hdst >>= k) Q) := by
  have hS : ents r h ⊆ lAll L := band_subset (Nat.zero_le _) (by omega)
  unfold Gath
  iintro ⟨⟨Hf, Hrest⟩, HO⟩ Hk
  iapply (wait_step d (cV L) (jV L) (srcw := src) (dstw := R) (hsrc := hsrc) (hdst := hdst) rfl) $$ [Hf HO]
  · isplitl [Hf]; · iexact Hf
    iexact HO
  iintro ⟨⟨HR, Hsh, Hl⟩, Hz, HO⟩
  iapply Hk
  isplitl [HR]; · iexact HR
  isplitl [Hsh]; · iexact Hsh
  isplitl [Hl Hrest]
  · iapply (pointsTo_split_subset hS).2
    isplitl [Hl]; · iexact Hl
    iexact Hrest
  isplitl [Hz]; · iexact Hz
  iexact HO

/-- Issuing the copy of a filled buffer to the next rows of the result. -/
theorem write_out {h r : ℕ} {R : Memref sig .scVector .vmem ⟨2, ![h, 128]⟩ .f32} {off : Fin 2 → ℕ} {inb} {sem : DmaSem sig}
    {hsrc : R.view.WordExact} {hdst : ((oV).slice (Rect.unit (s := S100000x128) off (⟨2, ![h, 128]⟩ : Shape).size inb) (fun _ => rfl)).view.WordExact}
    {hsem : DmaTarget.Typed (nD := nD) (τ := τ) (p := (V d (cV L) (jV L)).2) .vmem (.dma sem)
      (.here ((oV).slice (Rect.unit (s := S100000x128) off (⟨2, ![h, 128]⟩ : Shape).size inb) (fun _ => rfl)))}
    {k : PUnit → Prog (TpuEff nD τ sig (Elt F) Λ₀ (.scVector (cV L) (jV L))) α}
    (ho : off = ![bs L + r, 0]) (hr : r + h ≤ ln L) (hs : 0 < (⟨2, ![h, 128]⟩ : Shape).numel) :
    iprop(Full m d L R r ∗ Todo m d L r ∗ Z (F := F) d L sem)
      ⊢ iprop((iprop(Wfly m d L R sem r ∗ Todo m d L (r + h)) -∗ Runs d (cV L) (jV L) (k ⟨⟩) Q)
          -∗ Runs d (cV L) (jV L) (Prog.lift (.enqueueDma R
              (.here ((oV).slice (Rect.unit (s := S100000x128) off (⟨2, ![h, 128]⟩ : Shape).size inb) (fun _ => rfl))) (.dma sem) hsrc hdst hsem) >>= k) Q) := by
  have hb := bs_ln_le L
  have H := write_step (F := F) d (cV L) (jV L) (R := R)
    (dst := (oV).slice (Rect.unit (s := S100000x128) off (⟨2, ![h, 128]⟩ : Shape).size inb) (fun _ => rfl)) (sem := sem) (hsrc := hsrc) (hdst := hdst)
    (hsem := hsem) (k := k) (Q := Q) (fd := m (oLoc d)) (g := OUT m d) (n := nO h) rfl hs (read_out m d ho (by omega))
  rw [set_out ho] at H
  iintro ⟨HR, Ht, Hz⟩ Hk
  ihave Ht' := (todo_take m d L hr) $$ Ht
  icases Ht' with ⟨Hn, Ht⟩
  iapply H $$ [HR Hn Hz]
  · isplitl [HR]; · iexact HR
    isplitl [Hn]; · iexact Hn
    iexact Hz
  iintro Hf
  iapply Hk
  isplitl [Hf]; · unfold Wfly; iexact Hf
  iexact Ht

/-- Waiting for it. -/
theorem write_wait {h r : ℕ} {R : Memref sig .scVector .vmem ⟨2, ![h, 128]⟩ .f32} {off : Fin 2 → ℕ} {inb} {sem : DmaSem sig}
    {hsrc : R.view.WordExact} {hdst : ((oV).slice (Rect.unit (s := S100000x128) off (⟨2, ![h, 128]⟩ : Shape).size inb) (fun _ => rfl)).view.WordExact}
    {k : PUnit → Prog (TpuEff nD τ sig (Elt F) Λ₀ (.scVector (cV L) (jV L))) α} :
    iprop(Wfly m d L R sem r ∗ Done m d L r ∗ Ow d L O W)
      ⊢ iprop((iprop(Fr (F := F) d L R ∗ Done m d L (r + h) ∗ Z (F := F) d L sem ∗ Ow d L O W) -∗ Runs d (cV L) (jV L) (k ⟨⟩) Q)
          -∗ Runs d (cV L) (jV L) (Prog.lift (.waitDma2 sem R
              ((oV).slice (Rect.unit (s := S100000x128) off (⟨2, ![h, 128]⟩ : Shape).size inb) (fun _ => rfl)) hsrc hdst) >>= k) Q) := by
  unfold Wfly
  iintro ⟨Hf, Hd, HO⟩ Hk
  iapply (wait_step d (cV L) (jV L) (srcw := R)
    (dstw := (oV).slice (Rect.unit (s := S100000x128) off (⟨2, ![h, 128]⟩ : Shape).size inb) (fun _ => rfl)) (hsrc := hsrc) (hdst := hdst)
    (n := nO h) rfl) $$ [Hf HO]
  · isplitl [Hf]; · iexact Hf
    iexact HO
  iintro ⟨⟨HR, Ho⟩, Hz, HO⟩
  iapply Hk
  isplitl [HR]; · iexact HR
  isplitl [Hd Ho]
  · iapply (done_put m d L)
    isplitl [Hd]; · iexact Hd
    iexact Ho
  isplitl [Hz]; · iexact Hz
  iexact HO

/-! ## The rows of a buffer are counted in as many units as the buffer -/

set_option maxRecDepth 20000 in
theorem credit_r0 (hg : S10000x128.Gathers 0 S104x128) :
    ∑ j, ((r0V).slice (S104x128.rowRect hg.axis' j) (S104x128.stride_rowRect hg.axis' j)).view.dmaCredit = (r0V).view.dmaCredit := by decide +revert +kernel
set_option maxRecDepth 20000 in
theorem credit_r1 (hg : S10000x128.Gathers 0 S104x128) :
    ∑ j, ((r1V).slice (S104x128.rowRect hg.axis' j) (S104x128.stride_rowRect hg.axis' j)).view.dmaCredit = (r1V).view.dmaCredit := by decide +revert +kernel
set_option maxRecDepth 20000 in
theorem credit_r2 (hg : S10000x128.Gathers 0 S104x128) :
    ∑ j, ((r2V).slice (S104x128.rowRect hg.axis' j) (S104x128.stride_rowRect hg.axis' j)).view.dmaCredit = (r2V).view.dmaCredit := by decide +revert +kernel

/-- The first 56 rows of the first buffer: what the last tile's last visit fills. -/
abbrev r0T : Memref sig .scVector .vmem S56x128 .f32 :=
  (r0V).slice (Rect.unit (s := S104x128) ![0, 0] S56x128.size inb_S104x128_S56x128_0_0) (fun _ => rfl)

set_option maxRecDepth 20000 in
theorem credit_r0T (hg : S10000x128.Gathers 0 S56x128) :
    ∑ j, ((r0T).slice (S56x128.rowRect hg.axis' j) (S56x128.stride_rowRect hg.axis' j)).view.dmaCredit = (r0T).view.dmaCredit := by decide +revert +kernel

end Cert.Proof
-- ==== Proof.Parts.lean ====
/-
  The pieces of a tile's program after its table and its list are in place: the visits before the loop, the loop's
  trips, the visits after it, and the last tile's two more. Each piece is stated by what it takes and what it leaves.
-/
module

public import proofs.«01_k».proof.Proof.Moves

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_arg0_scv : Memref Cert.KernelIdeal.sig Kind.scVector Space.hbm Cert.KernelIdeal.S10000x128 EltTy.f32)
local notation "iV" => (Memref.whole Cert.KernelIdeal.main_arg1_scv : Memref Cert.KernelIdeal.sig Kind.scVector Space.hbm Cert.KernelIdeal.S100000 EltTy.i32)
local notation "oV" => (Memref.whole Cert.KernelIdeal.main_v0_scv : Memref Cert.KernelIdeal.sig Kind.scVector Space.hbm Cert.KernelIdeal.S100000x128 EltTy.f32)
local notation "shV" => (Memref.whole Cert.KernelIdeal.cc0_scratch0 : Memref Cert.KernelIdeal.sig Kind.scVector Space.shared Cert.KernelIdeal.S10000x128 EltTy.f32)
local notation "lV" => (Memref.whole Cert.KernelIdeal.cc0_scratch1 : Memref Cert.KernelIdeal.sig Kind.scVector Space.vmem Cert.KernelIdeal.S3280 EltTy.i32)
local notation "r0V" => (Memref.whole Cert.KernelIdeal.cc0_scratch2 : Memref Cert.KernelIdeal.sig Kind.scVector Space.vmem Cert.KernelIdeal.S104x128 EltTy.f32)
local notation "r1V" => (Memref.whole Cert.KernelIdeal.cc0_scratch3 : Memref Cert.KernelIdeal.sig Kind.scVector Space.vmem Cert.KernelIdeal.S104x128 EltTy.f32)
local notation "r2V" => (Memref.whole Cert.KernelIdeal.cc0_scratch4 : Memref Cert.KernelIdeal.sig Kind.scVector Space.vmem Cert.KernelIdeal.S104x128 EltTy.f32)

variable (m : (ℓ : Loc nD τ sig) → Buf (Elt F) ℓ) (d : Dev nD) (L : grid0.Coords)

/-! ## Where the kernel's offsets are -/

theorem off4 : ∀ (i : grid0.Coords) (r : Fin 8), k0_off4 i (k0_off4_at r) = ![base (i 0).val (i 1).val + (k0_off4_at r).toNat, 0] := by decide +kernel
theorem off6 (i : grid0.Coords) (t : Fin k0_t1_loop.trips) (r : Fin 3) {p : ℕ} (hp : p = 312 * t.val + 104 * r.val + 312) :
    k0_off6 i t (BitVec.ofNat 32 r.val) = ![base (i 0).val (i 1).val + p, 0] := by
  subst hp; rw [k0_off6_eq]; simp only [base, Nat.add_assoc]
theorem off8 (t : Fin k0_t1_loop.trips) (r : Fin 3) {p : ℕ} (hp : p = 312 * t.val + 104 * r.val + 416) :
    k0_off8 t (BitVec.ofNat 32 r.val) = ![p] := by
  subst hp; rw [k0_off8_eq]
theorem trips_eq : k0_t1_loop.trips = 8 := by decide

variable [FloatOps F] {O : CellTallies nD τ sig (HIx 1)} {W : Waits sig (HIx 1)}

/-- A piece known by what it leaves, before the rest of a program: the rest runs from there. -/
theorem runs_then {α β : Type} {c : Fin τ.nSC} {j : Fin τ.nSub} {p : Prog (TpuEff nD τ sig (Elt F) Λ₀ (.scVector c j)) α}
    {k : α → Prog (TpuEff nD τ sig (Elt F) Λ₀ (.scVector c j)) β} {R : sProp (MT nD τ sig (HIx 1) (Elt F) ℕ UU ℕ)}
    {Q' : α → sProp (MT nD τ sig (HIx 1) (Elt F) ℕ UU ℕ)} {Q : β → sProp (MT nD τ sig (HIx 1) (Elt F) ℕ UU ℕ)}
    (h : R ⊢ Runs d c j p Q') : R ⊢ iprop((∀ a, Q' a -∗ Runs d c j (k a) Q) -∗ Runs d c j (p >>= k) Q) := by
  unfold Runs; rw [wp_bind]
  exact h.trans (wp_wand _ _ _)

/-! ## The pieces, at this kernel's buffers -/

/-- The first half of a trip. -/
abbrev part1 (L : grid0.Coords) (v2 : BitVec 32) (t : Fin k0_t1_loop.trips) := k0_part1 (F := F) L xV (Memref.isWhole_whole _) iV (Memref.isWhole_whole _) oV (Memref.isWhole_whole _) shV (Memref.isWhole_whole _) lV (Memref.isWhole_whole _)
    r0V (Memref.isWhole_whole _) r1V (Memref.isWhole_whole _) r2V (Memref.isWhole_whole _) cc0_scratch5 cc0_scratch6 cc0_scratch7 cc0_scratch8 cc0_scratch9 cc0_scratch10
    cc0_scratch11 cc0_scratch12 cc0_scoped0 cc0_scoped1 cc0_scoped2 cc0_scoped3 v2 1#32 1#32 t

/-- The last tile's two more visits. -/
abbrev part2 (L : grid0.Coords) := k0_part2 (F := F) L xV (Memref.isWhole_whole _) iV (Memref.isWhole_whole _) oV (Memref.isWhole_whole _) shV (Memref.isWhole_whole _) lV (Memref.isWhole_whole _)
    r0V (Memref.isWhole_whole _) r1V (Memref.isWhole_whole _) r2V (Memref.isWhole_whole _) cc0_scratch5 cc0_scratch6 cc0_scratch7 cc0_scratch8 cc0_scratch9 cc0_scratch10
    cc0_scratch11 cc0_scratch12 cc0_scoped0 cc0_scoped1 cc0_scoped2 cc0_scoped3

/-- The tile's start. -/
abbrev part3 (L : grid0.Coords) := k0_part3 (F := F) L xV (Memref.isWhole_whole _) iV (Memref.isWhole_whole _) oV (Memref.isWhole_whole _) shV (Memref.isWhole_whole _) lV (Memref.isWhole_whole _)
    r0V (Memref.isWhole_whole _) r1V (Memref.isWhole_whole _) r2V (Memref.isWhole_whole _) cc0_scratch5 cc0_scratch6 cc0_scratch7 cc0_scratch8 cc0_scratch9 cc0_scratch10
    cc0_scratch11 cc0_scratch12 cc0_scoped0 cc0_scoped1 cc0_scoped2 cc0_scoped3

/-- The visits before the loop, and the loop. -/
abbrev part4 (L : grid0.Coords) (v2 : BitVec 32) := k0_part4 (F := F) L xV (Memref.isWhole_whole _) iV (Memref.isWhole_whole _) oV (Memref.isWhole_whole _) shV (Memref.isWhole_whole _) lV (Memref.isWhole_whole _)
    r0V (Memref.isWhole_whole _) r1V (Memref.isWhole_whole _) r2V (Memref.isWhole_whole _) cc0_scratch5 cc0_scratch6 cc0_scratch7 cc0_scratch8 cc0_scratch9 cc0_scratch10
    cc0_scratch11 cc0_scratch12 cc0_scoped0 cc0_scoped1 cc0_scoped2 cc0_scoped3 v2

/-- The visits after the loop. -/
abbrev part5 (L : grid0.Coords) (v2 : BitVec 32) := k0_part5 (F := F) L xV (Memref.isWhole_whole _) iV (Memref.isWhole_whole _) oV (Memref.isWhole_whole _) shV (Memref.isWhole_whole _) lV (Memref.isWhole_whole _)
    r0V (Memref.isWhole_whole _) r1V (Memref.isWhole_whole _) r2V (Memref.isWhole_whole _) cc0_scratch5 cc0_scratch6 cc0_scratch7 cc0_scratch8 cc0_scratch9 cc0_scratch10
    cc0_scratch11 cc0_scratch12 cc0_scoped0 cc0_scoped1 cc0_scoped2 cc0_scoped3 v2

/-- A trip. -/
abbrev trip (L : grid0.Coords) (v2 : BitVec 32) := k0_t1_body (F := F) L xV (Memref.isWhole_whole _) iV (Memref.isWhole_whole _) oV (Memref.isWhole_whole _) shV (Memref.isWhole_whole _) lV (Memref.isWhole_whole _)
    r0V (Memref.isWhole_whole _) r1V (Memref.isWhole_whole _) r2V (Memref.isWhole_whole _) cc0_scratch5 cc0_scratch6 cc0_scratch7 cc0_scratch8 cc0_scratch9 cc0_scratch10
    cc0_scratch11 cc0_scratch12 cc0_scoped0 cc0_scoped1 cc0_scoped2 cc0_scoped3 v2

/-- The visits after the loop: of 27 (its copy), 28 and 29. -/
theorem part5_ok (hpre : PreOK m) (v2 : BitVec 32) :
    iprop(Full m d L r0V (2808) ∗ Sh m d L ∗ lPts m d L (lAll L) ∗ Wfly m d L r1V cc0_scratch9.sem (2600)
       ∗ Wfly m d L r2V cc0_scratch10.sem (2704) ∗ Done m d L (2600) ∗ Todo m d L (2808) ∗ Z (F := F) d L cc0_scratch6.sem
       ∗ Z (F := F) d L cc0_scratch7.sem ∗ Z (F := F) d L cc0_scratch8.sem ∗ Ow d L O W)
      ⊢ Runs d (cV L) (jV L) (part5 (F := F) L v2) fun _ =>
        iprop(Wfly m d L r0V cc0_scratch8.sem (2808) ∗ Wfly m d L r1V cc0_scratch9.sem (2912) ∗ Wfly m d L r2V cc0_scratch10.sem (3016)
         ∗ Sh m d L ∗ lPts m d L (lAll L) ∗ Done m d L (2808) ∗ Todo m d L (3120) ∗ Z (F := F) d L cc0_scratch6.sem
         ∗ Z (F := F) d L cc0_scratch7.sem ∗ Ow d L O W) := by
  have hln := ln_ge L
  unfold part5; rw [k0_part5_eq_skeleton]; unfold k0_part5_skel; dsimp only
  iintro ⟨HR0, Hsh, Hl, HW1, HW2, HD, HT, Hzg1, Hzg2, Hzw0, HO⟩
  iapply (write_out m d L (h := 104) (r := 2808) (off4 L 3) (by omega) (by decide)) $$ [HR0 HT Hzw0]
  · isplitl [HR0]; · iexact HR0
    isplitl [HT]; · iexact HT
    iexact Hzw0
  iintro ⟨HW0, HT⟩
  iapply (write_wait m d L (h := 104) (r := 2600)) $$ [HW1 HD HO]
  · isplitl [HW1]; · iexact HW1
    isplitl [HD]; · iexact HD
    iexact HO
  iintro ⟨HR1, HD, Hzw1, HO⟩
  iapply (gather_sh m d L hpre (h := 104) (r := 2912) (rfl) (by omega) (by decide) (credit_r1 _)) $$ [Hsh HR1 Hl Hzg1]
  · isplitl [Hsh]; · iexact Hsh
    isplitl [HR1]; · iexact HR1
    isplitl [Hl]; · iexact Hl
    iexact Hzg1
  iintro HG1
  iapply (gath_wait m d L (h := 104) (r := 2912) (by omega)) $$ [HG1 HO]
  · isplitl [HG1]; · iexact HG1
    iexact HO
  iintro ⟨HR1, Hsh, Hl, Hzg1, HO⟩
  iapply (write_out m d L (h := 104) (r := 2912) (off4 L 5) (by omega) (by decide)) $$ [HR1 HT Hzw1]
  · isplitl [HR1]; · iexact HR1
    isplitl [HT]; · iexact HT
    iexact Hzw1
  iintro ⟨HW1, HT⟩
  iapply (write_wait m d L (h := 104) (r := 2704)) $$ [HW2 HD HO]
  · isplitl [HW2]; · iexact HW2
    isplitl [HD]; · iexact HD
    iexact HO
  iintro ⟨HR2, HD, Hzw2, HO⟩
  iapply (gather_sh m d L hpre (h := 104) (r := 3016) (rfl) (by omega) (by decide) (credit_r2 _)) $$ [Hsh HR2 Hl Hzg2]
  · isplitl [Hsh]; · iexact Hsh
    isplitl [HR2]; · iexact HR2
    isplitl [Hl]; · iexact Hl
    iexact Hzg2
  iintro HG2
  iapply (gath_wait m d L (h := 104) (r := 3016) (by omega)) $$ [HG2 HO]
  · isplitl [HG2]; · iexact HG2
    iexact HO
  iintro ⟨HR2, Hsh, Hl, Hzg2, HO⟩
  iapply (write_out m d L (h := 104) (r := 3016) (off4 L 7) (by omega) (by decide)) $$ [HR2 HT Hzw2]
  · isplitl [HR2]; · iexact HR2
    isplitl [HT]; · iexact HT
    iexact Hzw2
  iintro ⟨HW2, HT⟩
  iapply (le_wp_ret _ _ _ _ _)
  isplitl [HW0]; · iexact HW0
  isplitl [HW1]; · iexact HW1
  isplitl [HW2]; · iexact HW2
  isplitl [Hsh]; · iexact Hsh
  isplitl [Hl]; · iexact Hl
  isplitl [HD]; · iexact HD
  isplitl [HT]; · iexact HT
  isplitl [Hzg1]; · iexact Hzg1
  isplitl [Hzg2]; · iexact Hzg2
  iexact HO

/-- The first half of a trip: the first visit's rows and the second's, up to their copies. -/
theorem part1_ok (hpre : PreOK m) (v2 : BitVec 32) (t : Fin k0_t1_loop.trips) {p : ℕ} (hp : p = 312 * t.val) :
    iprop(Gath m d L r0V cc0_scratch5.sem (p + 312) ∗ Wfly m d L r1V cc0_scratch9.sem (p + 104)
       ∗ Wfly m d L r2V cc0_scratch10.sem (p + 208) ∗ Done m d L (p + 104) ∗ Todo m d L (p + 312)
       ∗ Z (F := F) d L cc0_scratch6.sem ∗ Z (F := F) d L cc0_scratch7.sem ∗ Z (F := F) d L cc0_scratch8.sem ∗ Ow d L O W)
      ⊢ Runs d (cV L) (jV L) (part1 (F := F) L v2 t) fun _ =>
        iprop(Wfly m d L r0V cc0_scratch8.sem (p + 312) ∗ Wfly m d L r1V cc0_scratch9.sem (p + 416)
         ∗ Wfly m d L r2V cc0_scratch10.sem (p + 208) ∗ Done m d L (p + 208) ∗ Todo m d L (p + 520) ∗ Sh m d L
         ∗ lPts m d L (lAll L) ∗ Z (F := F) d L cc0_scratch5.sem ∗ Z (F := F) d L cc0_scratch6.sem
         ∗ Z (F := F) d L cc0_scratch7.sem ∗ Ow d L O W) := by
  have hln := ln_ge L
  have ht : t.val < 8 := trips_eq ▸ t.isLt
  unfold part1; rw [k0_part1_eq_skeleton]; unfold k0_part1_skel; dsimp only
  iintro ⟨HG0, HW1, HW2, HD, HT, Hzg1, Hzg2, Hzw0, HO⟩
  iapply (gath_wait m d L (h := 104) (r := p + 312) (by omega)) $$ [HG0 HO]
  · isplitl [HG0]; · iexact HG0
    iexact HO
  iintro ⟨HR0, Hsh, Hl, Hzg0, HO⟩
  iapply (write_out m d L (h := 104) (r := p + 312) (off6 L t 0 (by simp; omega)) (by omega) (by decide)) $$ [HR0 HT Hzw0]
  · isplitl [HR0]; · iexact HR0
    isplitl [HT]; · iexact HT
    iexact Hzw0
  iintro ⟨HW0, HT⟩
  iapply (write_wait m d L (h := 104) (r := p + 104)) $$ [HW1 HD HO]
  · isplitl [HW1]; · iexact HW1
    isplitl [HD]; · iexact HD
    iexact HO
  iintro ⟨HR1, HD, Hzw1, HO⟩
  iapply (gather_sh m d L hpre (h := 104) (r := p + 416) (off8 t 0 (by simp; omega)) (by omega) (by decide) (credit_r1 _)) $$ [Hsh HR1 Hl Hzg1]
  · isplitl [Hsh]; · iexact Hsh
    isplitl [HR1]; · iexact HR1
    isplitl [Hl]; · iexact Hl
    iexact Hzg1
  iintro HG1
  iapply (gath_wait m d L (h := 104) (r := p + 416) (by omega)) $$ [HG1 HO]
  · isplitl [HG1]; · iexact HG1
    iexact HO
  iintro ⟨HR1, Hsh, Hl, Hzg1, HO⟩
  iapply (write_out m d L (h := 104) (r := p + 416) (off6 L t 1 (by simp; omega)) (by omega) (by decide)) $$ [HR1 HT Hzw1]
  · isplitl [HR1]; · iexact HR1
    isplitl [HT]; · iexact HT
    iexact Hzw1
  iintro ⟨HW1, HT⟩
  iapply (le_wp_ret _ _ _ _ _)
  isplitl [HW0]; · iexact HW0
  isplitl [HW1]; · iexact HW1
  isplitl [HW2]; · iexact HW2
  isplitl [HD]; · iexact HD
  isplitl [HT]; · iexact HT
  isplitl [Hsh]; · iexact Hsh
  isplitl [Hl]; · iexact Hl
  isplitl [Hzg0]; · iexact Hzg0
  isplitl [Hzg1]; · iexact Hzg1
  isplitl [Hzg2]; · iexact Hzg2
  iexact HO

/-- A trip: three visits. -/
theorem trip_ok (hpre : PreOK m) (v2 : BitVec 32) (t : Fin k0_t1_loop.trips) {p : ℕ} (hp : p = 312 * t.val) :
    iprop(Gath m d L r0V cc0_scratch5.sem (p + 312) ∗ Wfly m d L r1V cc0_scratch9.sem (p + 104)
       ∗ Wfly m d L r2V cc0_scratch10.sem (p + 208) ∗ Done m d L (p + 104) ∗ Todo m d L (p + 312)
       ∗ Z (F := F) d L cc0_scratch6.sem ∗ Z (F := F) d L cc0_scratch7.sem ∗ Z (F := F) d L cc0_scratch8.sem ∗ Ow d L O W)
      ⊢ Runs d (cV L) (jV L) (trip (F := F) L v2 t ⟨⟩) fun _ =>
        iprop(Gath m d L r0V cc0_scratch5.sem (p + 624) ∗ Wfly m d L r1V cc0_scratch9.sem (p + 416)
         ∗ Wfly m d L r2V cc0_scratch10.sem (p + 520) ∗ Done m d L (p + 416) ∗ Todo m d L (p + 624)
         ∗ Z (F := F) d L cc0_scratch6.sem ∗ Z (F := F) d L cc0_scratch7.sem ∗ Z (F := F) d L cc0_scratch8.sem ∗ Ow d L O W) := by
  have hln := ln_ge L
  have ht : t.val < 8 := trips_eq ▸ t.isLt
  unfold trip k0_t1_body; dsimp only
  iintro ⟨HG0, HW1, HW2, HD, HT, Hzg1, Hzg2, Hzw0, HO⟩
  iapply (runs_then d (part1_ok m d L hpre v2 t hp)) $$ [HG0 HW1 HW2 HD HT Hzg1 Hzg2 Hzw0 HO]
  · isplitl [HG0]; · iexact HG0
    isplitl [HW1]; · iexact HW1
    isplitl [HW2]; · iexact HW2
    isplitl [HD]; · iexact HD
    isplitl [HT]; · iexact HT
    isplitl [Hzg1]; · iexact Hzg1
    isplitl [Hzg2]; · iexact Hzg2
    isplitl [Hzw0]; · iexact Hzw0
    iexact HO
  iintro %_ ⟨HW0, HW1, HW2, HD, HT, Hsh, Hl, Hzg0, Hzg1, Hzg2, HO⟩
  iapply (write_wait m d L (h := 104) (r := p + 208)) $$ [HW2 HD HO]
  · isplitl [HW2]; · iexact HW2
    isplitl [HD]; · iexact HD
    iexact HO
  iintro ⟨HR2, HD, Hzw2, HO⟩
  iapply (gather_sh m d L hpre (h := 104) (r := p + 520) (off8 t 1 (by simp; omega)) (by omega) (by decide) (credit_r2 _)) $$ [Hsh HR2 Hl Hzg2]
  · isplitl [Hsh]; · iexact Hsh
    isplitl [HR2]; · iexact HR2
    isplitl [Hl]; · iexact Hl
    iexact Hzg2
  iintro HG2
  iapply (gath_wait m d L (h := 104) (r := p + 520) (by omega)) $$ [HG2 HO]
  · isplitl [HG2]; · iexact HG2
    iexact HO
  iintro ⟨HR2, Hsh, Hl, Hzg2, HO⟩
  iapply (write_out m d L (h := 104) (r := p + 520) (off6 L t 2 (by simp; omega)) (by omega) (by decide)) $$ [HR2 HT Hzw2]
  · isplitl [HR2]; · iexact HR2
    isplitl [HT]; · iexact HT
    iexact Hzw2
  iintro ⟨HW2, HT⟩
  iapply (write_wait m d L (h := 104) (r := p + 312)) $$ [HW0 HD HO]
  · isplitl [HW0]; · iexact HW0
    isplitl [HD]; · iexact HD
    iexact HO
  iintro ⟨HR0, HD, Hzw0, HO⟩
  iapply (gather_sh m d L hpre (h := 104) (r := p + 624) (off8 t 2 (by simp; omega)) (by omega) (by decide) (credit_r0 _)) $$ [Hsh HR0 Hl Hzg0]
  · isplitl [Hsh]; · iexact Hsh
    isplitl [HR0]; · iexact HR0
    isplitl [Hl]; · iexact Hl
    iexact Hzg0
  iintro HG0
  iapply (le_wp_ret _ _ _ _ _)
  isplitl [HG0]; · iexact HG0
  isplitl [HW1]; · iexact HW1
  isplitl [HW2]; · iexact HW2
  isplitl [HD]; · iexact HD
  isplitl [HT]; · iexact HT
  isplitl [Hzg1]; · iexact Hzg1
  isplitl [Hzg2]; · iexact Hzg2
  isplitl [Hzw0]; · iexact Hzw0
  iexact HO

/-- The visits before the loop, 1 to 3, and the loop: what is in flight after it are the copies of visits 25 and 26, and visit 27 is in the first buffer. -/
theorem part4_ok (hpre : PreOK m) (v2 : BitVec 32) :
    iprop(Wfly m d L r0V cc0_scratch8.sem (0) ∗ Gath m d L r1V cc0_scratch6.sem (104) ∗ Done m d L (0) ∗ Todo m d L (104)
       ∗ Fr (F := F) d L r2V ∗ Z (F := F) d L cc0_scratch5.sem ∗ Z (F := F) d L cc0_scratch7.sem
       ∗ Z (F := F) d L cc0_scratch9.sem ∗ Z (F := F) d L cc0_scratch10.sem ∗ Ow d L O W)
      ⊢ Runs d (cV L) (jV L) (part4 (F := F) L v2) fun _ =>
        iprop(Full m d L r0V (2808) ∗ Sh m d L ∗ lPts m d L (lAll L) ∗ Wfly m d L r1V cc0_scratch9.sem (2600)
         ∗ Wfly m d L r2V cc0_scratch10.sem (2704) ∗ Done m d L (2600) ∗ Todo m d L (2808) ∗ Z (F := F) d L cc0_scratch6.sem
         ∗ Z (F := F) d L cc0_scratch7.sem ∗ Z (F := F) d L cc0_scratch8.sem ∗ Z (F := F) d L cc0_scratch5.sem ∗ Ow d L O W) := by
  have hln := ln_ge L
  unfold part4; rw [k0_part4_eq_skeleton]; unfold k0_part4_skel; dsimp only
  iintro ⟨HW0, HG1, HD, HT, HR2, Hzg0, Hzg2, Hzw1, Hzw2, HO⟩
  iapply (gath_wait m d L (h := 104) (r := 104) (by omega)) $$ [HG1 HO]
  · isplitl [HG1]; · iexact HG1
    iexact HO
  iintro ⟨HR1, Hsh, Hl, Hzg1, HO⟩
  iapply (write_out m d L (h := 104) (r := 104) (off4 L 1) (by omega) (by decide)) $$ [HR1 HT Hzw1]
  · isplitl [HR1]; · iexact HR1
    isplitl [HT]; · iexact HT
    iexact Hzw1
  iintro ⟨HW1, HT⟩
  iapply (gather_sh m d L hpre (h := 104) (r := 208) (rfl) (by omega) (by decide) (credit_r2 _)) $$ [Hsh HR2 Hl Hzg2]
  · isplitl [Hsh]; · iexact Hsh
    isplitl [HR2]; · iexact HR2
    isplitl [Hl]; · iexact Hl
    iexact Hzg2
  iintro HG2
  iapply (gath_wait m d L (h := 104) (r := 208) (by omega)) $$ [HG2 HO]
  · isplitl [HG2]; · iexact HG2
    iexact HO
  iintro ⟨HR2, Hsh, Hl, Hzg2, HO⟩
  iapply (write_out m d L (h := 104) (r := 208) (off4 L 2) (by omega) (by decide)) $$ [HR2 HT Hzw2]
  · isplitl [HR2]; · iexact HR2
    isplitl [HT]; · iexact HT
    iexact Hzw2
  iintro ⟨HW2, HT⟩
  iapply (write_wait m d L (h := 104) (r := 0)) $$ [HW0 HD HO]
  · isplitl [HW0]; · iexact HW0
    isplitl [HD]; · iexact HD
    iexact HO
  iintro ⟨HR0, HD, Hzw0, HO⟩
  iapply (gather_sh m d L hpre (h := 104) (r := 312) (rfl) (by omega) (by decide) (credit_r0 _)) $$ [Hsh HR0 Hl Hzg0]
  · isplitl [Hsh]; · iexact Hsh
    isplitl [HR0]; · iexact HR0
    isplitl [Hl]; · iexact Hl
    iexact Hzg0
  iintro HG0
  iapply (Scf.wp_for_bind frame (wpE (defs₀ (F := F)) 𝒱₀ (V d (cV L) (jV L)) none) Set.univ _ _ _ _ _ _
    (fun n _ => iprop(Gath m d L r0V cc0_scratch5.sem (312 * n + 312) ∗ Wfly m d L r1V cc0_scratch9.sem (312 * n + 104)
       ∗ Wfly m d L r2V cc0_scratch10.sem (312 * n + 208) ∗ Done m d L (312 * n + 104) ∗ Todo m d L (312 * n + 312)
       ∗ Z (F := F) d L cc0_scratch6.sem ∗ Z (F := F) d L cc0_scratch7.sem ∗ Z (F := F) d L cc0_scratch8.sem ∗ Ow d L O W))
    (fun t _ => trip_ok m d L hpre v2 t rfl)) $$ [HG0 HW1 HW2 HD HT Hzg1 Hzg2 Hzw0 HO]
  · isplitl [HG0]; · iexact HG0
    isplitl [HW1]; · iexact HW1
    isplitl [HW2]; · iexact HW2
    isplitl [HD]; · iexact HD
    isplitl [HT]; · iexact HT
    isplitl [Hzg1]; · iexact Hzg1
    isplitl [Hzg2]; · iexact Hzg2
    isplitl [Hzw0]; · iexact Hzw0
    iexact HO
  iintro %_ ⟨HG0, HW1, HW2, HD, HT, Hzg1, Hzg2, Hzw0, HO⟩
  iapply (gath_wait m d L (h := 104) (r := 2808) (by omega)) $$ [HG0 HO]
  · isplitl [HG0]; · iexact HG0
    iexact HO
  iintro ⟨HR0, Hsh, Hl, Hzg0, HO⟩
  iapply (le_wp_ret _ _ _ _ _)
  isplitl [HR0]; · iexact HR0
  isplitl [Hsh]; · iexact Hsh
  isplitl [Hl]; · iexact Hl
  isplitl [HW1]; · iexact HW1
  isplitl [HW2]; · iexact HW2
  isplitl [HD]; · iexact HD
  isplitl [HT]; · iexact HT
  isplitl [Hzg1]; · iexact Hzg1
  isplitl [Hzg2]; · iexact Hzg2
  isplitl [Hzw0]; · iexact Hzw0
  isplitl [Hzg0]; · iexact Hzg0
  iexact HO

/-- The rows of the first buffer that the last visit leaves alone. -/
abbrev r0Rest : sProp 𝕄 := iprop(∃ f, (r0V).view.loc (V d (cV L) (jV L)) ↦[Finset.univ \ (r0T).view.set]{fullShare} f)

omit [FloatOps F] in
theorem r0_cut : Fr (F := F) d L r0V ⊢ iprop(Fr (F := F) d L r0T ∗ r0Rest (F := F) d L) := by
  unfold Fr Free
  iintro ⟨%f, H⟩
  ihave H' := (pointsTo_split_subset (q := fullShare) (f := f) (S := (r0V).view.set) (I := (r0T).view.set)
    (by rw [show (r0V).view.set = Finset.univ from View.set_whole _]; exact Finset.subset_univ _)).1 $$ H
  icases H' with ⟨H, Hr⟩
  isplitl [H]; · iexists f; iexact H
  iexists f
  rw [show (r0V).view.set = Finset.univ from View.set_whole _]
  iexact Hr

omit [FloatOps F] in
theorem r0_join : iprop(Fr (F := F) d L r0T ∗ r0Rest (F := F) d L) ⊢ Fr (F := F) d L r0V := by
  unfold Fr Free
  iintro ⟨⟨%f, H⟩, %g, Hr⟩
  iexists _
  rw [show (r0V).view.set = Finset.univ from View.set_whole _]
  iapply (pointsTo_join_subset (Finset.subset_univ (r0T).view.set))
  isplitl [H]; · iexact H
  iexact Hr

/-- The last tile's two more visits: of 104 rows, and of 56, whose copy is left in flight. -/
theorem part2_ok (hpre : PreOK m) (hw : ln L = 3280) (hbs : bs L = 96720) :
    iprop(Fr (F := F) d L r0V ∗ Sh m d L ∗ lPts m d L (lAll L) ∗ Done m d L (3120) ∗ Todo m d L (3120)
       ∗ Z (F := F) d L cc0_scratch5.sem ∗ Z (F := F) d L cc0_scratch8.sem ∗ Z (F := F) d L cc0_scratch11.sem
       ∗ Z (F := F) d L cc0_scratch12.sem ∗ Ow d L O W)
      ⊢ Runs d (cV L) (jV L) (part2 (F := F) L) fun _ =>
        iprop(Wfly m d L r0T cc0_scratch12.sem (3224) ∗ r0Rest (F := F) d L ∗ Sh m d L ∗ lPts m d L (lAll L) ∗ Done m d L (3224)
         ∗ Todo m d L (3280) ∗ Z (F := F) d L cc0_scratch5.sem ∗ Z (F := F) d L cc0_scratch8.sem ∗ Z (F := F) d L cc0_scratch11.sem
         ∗ Ow d L O W) := by
  have hln := ln_ge L
  unfold part2; rw [k0_part2_eq_skeleton]; unfold k0_part2_skel; dsimp only
  iintro ⟨HR0, Hsh, Hl, HD, HT, Hzg0, Hzw0, HzgT, HzwT, HO⟩
  iapply (gather_sh m d L hpre (h := 104) (r := 3120) (rfl) (by omega) (by decide) (credit_r0 _)) $$ [Hsh HR0 Hl Hzg0]
  · isplitl [Hsh]; · iexact Hsh
    isplitl [HR0]; · iexact HR0
    isplitl [Hl]; · iexact Hl
    iexact Hzg0
  iintro HG0
  iapply (gath_wait m d L (h := 104) (r := 3120) (by omega)) $$ [HG0 HO]
  · isplitl [HG0]; · iexact HG0
    iexact HO
  iintro ⟨HR0, Hsh, Hl, Hzg0, HO⟩
  iapply (write_out m d L (h := 104) (r := 3120) (by rw [hbs]) (by omega) (by decide)) $$ [HR0 HT Hzw0]
  · isplitl [HR0]; · iexact HR0
    isplitl [HT]; · iexact HT
    iexact Hzw0
  iintro ⟨HW0, HT⟩
  iapply (write_wait m d L (h := 104) (r := 3120)) $$ [HW0 HD HO]
  · isplitl [HW0]; · iexact HW0
    isplitl [HD]; · iexact HD
    iexact HO
  iintro ⟨HR0, HD, Hzw0, HO⟩
  ihave HR' := (r0_cut d L) $$ HR0
  icases HR' with ⟨HR3, Hrest⟩
  iapply (gather_sh m d L hpre (h := 56) (r := 3224) (rfl) (by omega) (by decide) (credit_r0T _)) $$ [Hsh HR3 Hl HzgT]
  · isplitl [Hsh]; · iexact Hsh
    isplitl [HR3]; · iexact HR3
    isplitl [Hl]; · iexact Hl
    iexact HzgT
  iintro HG3
  iapply (gath_wait m d L (h := 56) (r := 3224) (by omega)) $$ [HG3 HO]
  · isplitl [HG3]; · iexact HG3
    iexact HO
  iintro ⟨HR3, Hsh, Hl, HzgT, HO⟩
  iapply (write_out m d L (h := 56) (r := 3224) (by rw [hbs]) (by omega) (by decide)) $$ [HR3 HT HzwT]
  · isplitl [HR3]; · iexact HR3
    isplitl [HT]; · iexact HT
    iexact HzwT
  iintro ⟨HWT, HT⟩
  iapply (le_wp_ret _ _ _ _ _)
  isplitl [HWT]; · iexact HWT
  isplitl [Hrest]; · iexact Hrest
  isplitl [Hsh]; · iexact Hsh
  isplitl [Hl]; · iexact Hl
  isplitl [HD]; · iexact HD
  isplitl [HT]; · iexact HT
  isplitl [Hzg0]; · iexact Hzg0
  isplitl [Hzw0]; · iexact Hzw0
  isplitl [HzgT]; · iexact HzgT
  iexact HO

end Cert.Proof
-- ==== Proof.Start.lean ====
/-
  The start of a tile: its part of the list comes into its own memory and its rows of the table into the memory its
  SparseCore shares, its first gather is issued (out of the table itself), and the tiles meet at the barrier, where each
  gives every other a share of the rows it has brought and so gets a share of the whole table.
-/
module

public import proofs.«01_k».proof.Proof.Parts

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_arg0_scv : Memref Cert.KernelIdeal.sig Kind.scVector Space.hbm Cert.KernelIdeal.S10000x128 EltTy.f32)
local notation "iV" => (Memref.whole Cert.KernelIdeal.main_arg1_scv : Memref Cert.KernelIdeal.sig Kind.scVector Space.hbm Cert.KernelIdeal.S100000 EltTy.i32)
local notation "oV" => (Memref.whole Cert.KernelIdeal.main_v0_scv : Memref Cert.KernelIdeal.sig Kind.scVector Space.hbm Cert.KernelIdeal.S100000x128 EltTy.f32)
local notation "shV" => (Memref.whole Cert.KernelIdeal.cc0_scratch0 : Memref Cert.KernelIdeal.sig Kind.scVector Space.shared Cert.KernelIdeal.S10000x128 EltTy.f32)
local notation "lV" => (Memref.whole Cert.KernelIdeal.cc0_scratch1 : Memref Cert.KernelIdeal.sig Kind.scVector Space.vmem Cert.KernelIdeal.S3280 EltTy.i32)
local notation "r0V" => (Memref.whole Cert.KernelIdeal.cc0_scratch2 : Memref Cert.KernelIdeal.sig Kind.scVector Space.vmem Cert.KernelIdeal.S104x128 EltTy.f32)
local notation "r1V" => (Memref.whole Cert.KernelIdeal.cc0_scratch3 : Memref Cert.KernelIdeal.sig Kind.scVector Space.vmem Cert.KernelIdeal.S104x128 EltTy.f32)
local notation "r2V" => (Memref.whole Cert.KernelIdeal.cc0_scratch4 : Memref Cert.KernelIdeal.sig Kind.scVector Space.vmem Cert.KernelIdeal.S104x128 EltTy.f32)

variable (m : (ℓ : Loc nD τ sig) → Buf (Elt F) ℓ) (d : Dev nD) (L : grid0.Coords)

/-! ## Which tiles take which of the two ways -/

theorem cond1_iff : ∀ i : grid0.Coords, k0_cond1 i = 1#1 ↔ 2 * (i 1).val + (i 0).val ≠ 31 := by decide +kernel
theorem cond2_iff : ∀ i : grid0.Coords, k0_cond2 i = 1#1 ↔ 2 * (i 1).val + (i 0).val = 31 := by decide +kernel
theorem cond3_iff : ∀ i : grid0.Coords, k0_cond3 i = 1#1 ↔ (i 1).val ≠ 15 := by decide +kernel
/-- The tile is the last of its SparseCore; and, of number `v`, the last of all. -/
abbrev lastSub (i : grid0.Coords) : BitVec 1 := Scalar.cmpi .ne (Scalar.extui (Scalar.cmpi .eq (BitVec.ofNat 32 (i 1).val) 15#32) : BitVec 32) 0#32
abbrev wid (i : grid0.Coords) : BitVec 32 := Scalar.addi (Scalar.muli (BitVec.ofNat 32 (i 1).val) 2#32) (BitVec.ofNat 32 (i 0).val)
theorem lastSub_iff : ∀ i : grid0.Coords, lastSub i = 1#1 ↔ (i 1).val = 15 := by decide +kernel
theorem wid_iff : ∀ i : grid0.Coords, Scalar.cmpi .ne (Scalar.extui (Scalar.cmpi .eq (wid i) 31#32) : BitVec 32) 0#32 = 1#1 ↔ 2 * (i 1).val + (i 0).val = 31 := by
  decide +kernel

/-! ## What the copies bring -/

/-- A stretch of the list, read. -/
theorem read_i {b h : ℕ} {off : Fin 1 → ℕ} {inb} (ho : off = ![b]) (hb : b + h ≤ 100000) (y : (⟨1, ![h]⟩ : Shape).Idx) :
    ((iV).slice (Rect.unit (s := S100000) off (⟨1, ![h]⟩ : Shape).size inb) (fun _ => rfl)).view.read (Elt F) (m (iLoc d)) y
      = (m (iLoc d) (iIx (b + (y 0).val)) : Elt F .i32) := by
  subst ho
  rw [View.read_apply]
  have h0 : (y 0).val < h := (y 0).isLt
  refine (cast_eq _ _).trans (congrArg (m (iLoc d) : S100000.Idx → Elt F .i32) ?_)
  funext a
  apply Fin.ext
  match a with
  | 0 => show b + 1 * (y 0).val = (b + (y 0).val) % 100000; rw [Nat.mod_eq_of_lt (by omega)]; omega

/-- Rows of the shared memory read as the same rows of the table. -/
theorem read_sh (c : Fin τ.nSC) {h : ℕ} {off : Fin 2 → ℕ} {inb inb'} :
    ((shV).slice (Rect.unit (s := S10000x128) off (⟨2, ![h, 128]⟩ : Shape).size inb) (fun _ => rfl)).view.read (Elt F) (shTab m d c)
      = ((xV).slice (Rect.unit (s := S10000x128) off (⟨2, ![h, 128]⟩ : Shape).size inb') (fun _ => rfl)).view.read (Elt F) (m (xLoc d)) := by
  funext x
  rw [View.read_apply, View.read_apply]
  exact (cast_eq _ _).trans (cast_eq _ _).symm

variable [FloatOps F] {α : Type} {Q : α → sProp (MT nD τ sig (HIx 1) (Elt F) ℕ UU ℕ)} {O : CellTallies nD τ sig (HIx 1)} {W : Waits sig (HIx 1)}

/-- The part of the tile's memory for the list that it leaves alone. -/
abbrev lRest : sProp 𝕄 := iprop(∃ f, (lV).view.loc (V d (cV L) (jV L)) ↦[Finset.univ \ lAll L]{fullShare} f)

/-- Memory held whole, at anything, is held in two parts. -/
theorem cut_any {ℓ : Loc nD τ sig} (S : Finset (Idx ℓ)) :
    (iprop(∃ f, ℓ ↦[Finset.univ]{fullShare} f) : sProp 𝕄) ⊢ iprop((∃ f, ℓ ↦[S]{fullShare} f) ∗ ∃ f, ℓ ↦[Finset.univ \ S]{fullShare} f) := by
  iintro ⟨%f, H⟩
  ihave H' := (pointsTo_split_subset (q := fullShare) (f := f) (Finset.subset_univ S)).1 $$ H
  icases H' with ⟨H, Hr⟩
  isplitl [H]; · iexists f; iexact H
  iexists f; iexact Hr

/-- The copies of the list: of 3120 entries, or of 3280 for the last tile. -/
theorem list_in {q : PosShare TreeShare} {k : Prog (TpuEff nD τ sig (Elt F) Λ₀ (.scVector (cV L) (jV L))) α} :
    iprop(iPts m d q ∗ (∃ f, (lV).view.loc (V d (cV L) (jV L)) ↦[Finset.univ]{fullShare} f)
        ∗ Z (F := F) d L cc0_scoped0.sem ∗ Z (F := F) d L cc0_scoped1.sem ∗ Ow d L O W)
      ⊢ iprop((iprop(iPts m d q ∗ lPts m d L (lAll L) ∗ lRest (F := F) d L
              ∗ Z (F := F) d L cc0_scoped0.sem ∗ Z (F := F) d L cc0_scoped1.sem ∗ Ow d L O W) -∗ Runs d (cV L) (jV L) k Q)
          -∗ Runs d (cV L) (jV L)
            (if h1 : k0_cond1 L = 1#1 then
              Prog.lift (.enqueueDma ((iV).slice (Rect.unit (s := S100000) (k0_off1 L) S3120.size (k0_off1_inb L h1)) (fun _ => rfl))
                (.here ((lV).slice (Rect.unit (s := S3280) ![0] S3120.size inb_S3280_S3120_0) (fun _ => rfl))) (.dma cc0_scoped0.sem) (View.wordExact_bits rfl) (View.wordExact_bits rfl) ⟨Or.inl rfl, trivial⟩) >>= fun _ =>
              Prog.lift (.waitDma2 cc0_scoped0.sem ((iV).slice (Rect.unit (s := S100000) (k0_off1 L) S3120.size (k0_off1_inb L h1)) (fun _ => rfl))
                ((lV).slice (Rect.unit (s := S3280) ![0] S3120.size inb_S3280_S3120_0) (fun _ => rfl)) (View.wordExact_bits rfl) (View.wordExact_bits rfl)) >>= fun _ =>
                if h2 : k0_cond2 L = 1#1 then
                  Prog.lift (.enqueueDma ((iV).slice (Rect.unit (s := S100000) (k0_off2 L) S3280.size (k0_off2_inb L h2)) (fun _ => rfl))
                    (.here lV) (.dma cc0_scoped1.sem) (View.wordExact_bits rfl) (Memref.isWhole_whole _).wordExact ⟨Or.inl rfl, trivial⟩) >>= fun _ =>
                  Prog.lift (.waitDma2 cc0_scoped1.sem ((iV).slice (Rect.unit (s := S100000) (k0_off2 L) S3280.size (k0_off2_inb L h2)) (fun _ => rfl))
                    lV (View.wordExact_bits rfl) (Memref.isWhole_whole _).wordExact) >>= fun _ => k
                else k
            else
              if h2 : k0_cond2 L = 1#1 then
                Prog.lift (.enqueueDma ((iV).slice (Rect.unit (s := S100000) (k0_off2 L) S3280.size (k0_off2_inb L h2)) (fun _ => rfl))
                  (.here lV) (.dma cc0_scoped1.sem) (View.wordExact_bits rfl) (Memref.isWhole_whole _).wordExact ⟨Or.inl rfl, trivial⟩) >>= fun _ =>
                Prog.lift (.waitDma2 cc0_scoped1.sem ((iV).slice (Rect.unit (s := S100000) (k0_off2 L) S3280.size (k0_off2_inb L h2)) (fun _ => rfl))
                  lV (View.wordExact_bits rfl) (Memref.isWhole_whole _).wordExact) >>= fun _ => k
              else k) Q) := by
  have hb := bs_ln_le L
  by_cases hw : 2 * (L 1).val + (L 0).val = 31
  · have hln : ln L = 3280 := by unfold ln len; rw [if_pos hw]
    have hall : lAll L = Finset.univ := by unfold lAll; rw [hln]; exact band_full (Nat.le_refl _)
    rw [dif_neg (fun h => (cond1_iff L).mp h hw), dif_pos ((cond2_iff L).mpr hw)]
    have hset : (lV).view.set = lAll L := (View.set_whole _).trans hall.symm
    iintro ⟨Hi, Hl, Hz0, Hz1, HO⟩ Hk
    ihave Hl' := (cut_any (F := F) (ℓ := (lV).view.loc (V d (cV L) (jV L))) (lAll L)) $$ Hl
    icases Hl' with ⟨Hl, Hr⟩
    have H := stage_step (F := F) d (cV L) (jV L) (s := S3280) (src := (iV).slice (Rect.unit (s := S100000) (k0_off2 L) S3280.size (k0_off2_inb L ((cond2_iff L).mpr hw))) (fun _ => rfl))
      (dst := lV) (sem := cc0_scoped1.sem)
      (hsrc := View.wordExact_bits rfl) (hdst := (Memref.isWhole_whole _).wordExact) (hsem := ⟨Or.inl rfl, trivial⟩) (hsrc' := View.wordExact_bits rfl) (hdst' := (Memref.isWhole_whole _).wordExact)
      (O := O) (W := W) (Q := Q) (k := fun _ => k)
      (q := q) (fs := m (iLoc d)) (S := Finset.univ) (Finset.subset_univ _) (g := listBuf m d L) (by decide) (funext fun y =>
        ((read_i m d (h := 3280) (k0_off2_eq L) (by unfold bs base at hb; omega) y).trans rfl).symm)
    rw [hset] at H
    iapply H $$ [Hi Hl Hz1 HO]
    · isplitl [Hi]; · iexact Hi
      isplitl [Hl]; · iexact Hl
      isplitl [Hz1]; · iexact Hz1
      iexact HO
    iintro ⟨Hi, Hl, Hz1, HO⟩
    iapply Hk
    isplitl [Hi]; · iexact Hi
    isplitl [Hl]; · iexact Hl
    isplitl [Hr]; · iexact Hr
    isplitl [Hz0]; · iexact Hz0
    isplitl [Hz1]; · iexact Hz1
    iexact HO
  · have hln : ln L = 3120 := by unfold ln len; rw [if_neg hw]
    have hset : ((lV).slice (Rect.unit (s := S3280) ![0] S3120.size inb_S3280_S3120_0) (fun _ => rfl)).view.set = lAll L := by
      unfold lAll; rw [hln]; exact set_l rfl
    rw [dif_pos ((cond1_iff L).mpr hw), dif_neg (fun h => hw ((cond2_iff L).mp h))]
    iintro ⟨Hi, Hl, Hz0, Hz1, HO⟩ Hk
    ihave Hl' := (cut_any (F := F) (ℓ := (lV).view.loc (V d (cV L) (jV L))) (lAll L)) $$ Hl
    icases Hl' with ⟨Hl, Hr⟩
    have H := stage_step (F := F) d (cV L) (jV L) (s := S3120) (src := (iV).slice (Rect.unit (s := S100000) (k0_off1 L) S3120.size (k0_off1_inb L ((cond1_iff L).mpr hw))) (fun _ => rfl))
      (dst := (lV).slice (Rect.unit (s := S3280) ![0] S3120.size inb_S3280_S3120_0) (fun _ => rfl)) (sem := cc0_scoped0.sem)
      (hsrc := View.wordExact_bits rfl) (hdst := View.wordExact_bits rfl) (hsem := ⟨Or.inl rfl, trivial⟩) (hsrc' := View.wordExact_bits rfl) (hdst' := View.wordExact_bits rfl)
      (O := O) (W := W) (Q := Q) (k := fun _ => k)
      (q := q) (fs := m (iLoc d)) (S := Finset.univ) (Finset.subset_univ _) (g := listBuf m d L) (by decide) (funext fun y =>
        (read_list m d L (h := 3120) rfl y).trans ((read_i m d (h := 3120) (k0_off1_eq L) (by unfold bs base at hb; omega) y).trans
          (by rw [Nat.zero_add]; rfl)).symm)
    rw [hset] at H
    iapply H $$ [Hi Hl Hz0 HO]
    · isplitl [Hi]; · iexact Hi
      isplitl [Hl]; · iexact Hl
      isplitl [Hz0]; · iexact Hz0
      iexact HO
    iintro ⟨Hi, Hl, Hz0, HO⟩
    iapply Hk
    isplitl [Hi]; · iexact Hi
    isplitl [Hl]; · iexact Hl
    isplitl [Hr]; · iexact Hr
    isplitl [Hz0]; · iexact Hz0
    isplitl [Hz1]; · iexact Hz1
    iexact HO

/-- The copies of the tile's rows of the table: 624 of them, or 640 for the last tile of a SparseCore. -/
theorem table_in {q : PosShare TreeShare} {k : Prog (TpuEff nD τ sig (Elt F) Λ₀ (.scVector (cV L) (jV L))) α} :
    iprop(xPts m d q ∗ (∃ f, shLoc d (cV L) ↦[chunk (L 1).val]{fullShare} f)
        ∗ Z (F := F) d L cc0_scoped2.sem ∗ Z (F := F) d L cc0_scoped3.sem ∗ Ow d L O W)
      ⊢ iprop((iprop(xPts m d q ∗ (shLoc d (cV L) ↦[chunk (L 1).val]{fullShare} shTab m d (cV L))
              ∗ Z (F := F) d L cc0_scoped2.sem ∗ Z (F := F) d L cc0_scoped3.sem ∗ Ow d L O W) -∗ Runs d (cV L) (jV L) k Q)
          -∗ Runs d (cV L) (jV L)
            (if h1 : k0_cond3 L = 1#1 then
              Prog.lift (.enqueueDma ((xV).slice (Rect.unit (s := S10000x128) (k0_off3 L) S624x128.size (k0_off3_inb L h1)) (fun _ => rfl))
                (.here ((shV).slice (Rect.unit (s := S10000x128) (k0_off3 L) S624x128.size (k0_off3_inb L h1)) (fun _ => rfl))) (.dma cc0_scoped2.sem) (View.wordExact_bits rfl) (View.wordExact_bits rfl) ⟨Or.inl rfl, trivial⟩) >>= fun _ =>
              Prog.lift (.waitDma2 cc0_scoped2.sem ((xV).slice (Rect.unit (s := S10000x128) (k0_off3 L) S624x128.size (k0_off3_inb L h1)) (fun _ => rfl))
                ((shV).slice (Rect.unit (s := S10000x128) (k0_off3 L) S624x128.size (k0_off3_inb L h1)) (fun _ => rfl)) (View.wordExact_bits rfl) (View.wordExact_bits rfl)) >>= fun _ =>
                if h2 : lastSub L = 1#1 then
                  Prog.lift (.enqueueDma ((xV).slice (Rect.unit (s := S10000x128) ![9360, 0] S640x128.size inb_S10000x128_S640x128_9360_0) (fun _ => rfl))
                    (.here ((shV).slice (Rect.unit (s := S10000x128) ![9360, 0] S640x128.size inb_S10000x128_S640x128_9360_0) (fun _ => rfl)))
                    (.dma cc0_scoped3.sem) (View.wordExact_bits rfl) (View.wordExact_bits rfl) ⟨Or.inl rfl, trivial⟩) >>= fun _ =>
                  Prog.lift (.waitDma2 cc0_scoped3.sem ((xV).slice (Rect.unit (s := S10000x128) ![9360, 0] S640x128.size inb_S10000x128_S640x128_9360_0) (fun _ => rfl))
                    ((shV).slice (Rect.unit (s := S10000x128) ![9360, 0] S640x128.size inb_S10000x128_S640x128_9360_0) (fun _ => rfl)) (View.wordExact_bits rfl) (View.wordExact_bits rfl)) >>= fun _ => k
                else k
            else
              if h2 : lastSub L = 1#1 then
                Prog.lift (.enqueueDma ((xV).slice (Rect.unit (s := S10000x128) ![9360, 0] S640x128.size inb_S10000x128_S640x128_9360_0) (fun _ => rfl))
                  (.here ((shV).slice (Rect.unit (s := S10000x128) ![9360, 0] S640x128.size inb_S10000x128_S640x128_9360_0) (fun _ => rfl)))
                  (.dma cc0_scoped3.sem) (View.wordExact_bits rfl) (View.wordExact_bits rfl) ⟨Or.inl rfl, trivial⟩) >>= fun _ =>
                Prog.lift (.waitDma2 cc0_scoped3.sem ((xV).slice (Rect.unit (s := S10000x128) ![9360, 0] S640x128.size inb_S10000x128_S640x128_9360_0) (fun _ => rfl))
                  ((shV).slice (Rect.unit (s := S10000x128) ![9360, 0] S640x128.size inb_S10000x128_S640x128_9360_0) (fun _ => rfl)) (View.wordExact_bits rfl) (View.wordExact_bits rfl)) >>= fun _ => k
              else k) Q) := by
  by_cases hs : (L 1).val = 15
  · have hset : ((shV).slice (Rect.unit (s := S10000x128) ![9360, 0] S640x128.size inb_S10000x128_S640x128_9360_0) (fun _ => rfl)).view.set = chunk (L 1).val := by
      unfold chunk; rw [if_pos hs, hs]; exact set_sh rfl
    rw [dif_neg (fun h => (cond3_iff L).mp h hs), dif_pos ((lastSub_iff L).mpr hs)]
    iintro ⟨Hx, Hsh, Hz2, Hz3, HO⟩ Hk
    have H := stage_step (F := F) d (cV L) (jV L) (s := S640x128) (src := (xV).slice (Rect.unit (s := S10000x128) ![9360, 0] S640x128.size inb_S10000x128_S640x128_9360_0) (fun _ => rfl))
      (dst := (shV).slice (Rect.unit (s := S10000x128) ![9360, 0] S640x128.size inb_S10000x128_S640x128_9360_0) (fun _ => rfl)) (sem := cc0_scoped3.sem)
      (hsrc := View.wordExact_bits rfl) (hdst := View.wordExact_bits rfl) (hsem := ⟨Or.inl rfl, trivial⟩) (hsrc' := View.wordExact_bits rfl) (hdst' := View.wordExact_bits rfl)
      (O := O) (W := W) (Q := Q) (k := fun _ => k)
      (q := q) (fs := m (xLoc d)) (S := Finset.univ) (Finset.subset_univ _) (g := shTab m d (cV L)) (by decide) (read_sh m d (cV L))
    rw [hset] at H
    iapply H $$ [Hx Hsh Hz3 HO]
    · isplitl [Hx]; · iexact Hx
      isplitl [Hsh]; · iexact Hsh
      isplitl [Hz3]; · iexact Hz3
      iexact HO
    iintro ⟨Hx, Hsh, Hz3, HO⟩
    iapply Hk
    isplitl [Hx]; · iexact Hx
    isplitl [Hsh]; · iexact Hsh
    isplitl [Hz2]; · iexact Hz2
    isplitl [Hz3]; · iexact Hz3
    iexact HO
  · have hset : ((shV).slice (Rect.unit (s := S10000x128) (k0_off3 L) S624x128.size (k0_off3_inb L ((cond3_iff L).mpr hs))) (fun _ => rfl)).view.set = chunk (L 1).val := by
      unfold chunk; rw [if_neg hs]; exact set_sh (k0_off3_eq L)
    rw [dif_pos ((cond3_iff L).mpr hs), dif_neg (fun h => hs ((lastSub_iff L).mp h))]
    iintro ⟨Hx, Hsh, Hz2, Hz3, HO⟩ Hk
    have H := stage_step (F := F) d (cV L) (jV L) (s := S624x128) (src := (xV).slice (Rect.unit (s := S10000x128) (k0_off3 L) S624x128.size (k0_off3_inb L ((cond3_iff L).mpr hs))) (fun _ => rfl))
      (dst := (shV).slice (Rect.unit (s := S10000x128) (k0_off3 L) S624x128.size (k0_off3_inb L ((cond3_iff L).mpr hs))) (fun _ => rfl)) (sem := cc0_scoped2.sem)
      (hsrc := View.wordExact_bits rfl) (hdst := View.wordExact_bits rfl) (hsem := ⟨Or.inl rfl, trivial⟩) (hsrc' := View.wordExact_bits rfl) (hdst' := View.wordExact_bits rfl)
      (O := O) (W := W) (Q := Q) (k := fun _ => k)
      (q := q) (fs := m (xLoc d)) (S := Finset.univ) (Finset.subset_univ _) (g := shTab m d (cV L)) (by decide) (read_sh m d (cV L))
    rw [hset] at H
    iapply H $$ [Hx Hsh Hz2 HO]
    · isplitl [Hx]; · iexact Hx
      isplitl [Hsh]; · iexact Hsh
      isplitl [Hz2]; · iexact Hz2
      iexact HO
    iintro ⟨Hx, Hsh, Hz2, HO⟩
    iapply Hk
    isplitl [Hx]; · iexact Hx
    isplitl [Hsh]; · iexact Hsh
    isplitl [Hz2]; · iexact Hz2
    isplitl [Hz3]; · iexact Hz3
    iexact HO

/-! ## The barrier -/

/-- The rows a tile has brought, held whole, are what its arrivals hand over. -/
theorem pays_give : (shLoc d (cV L) ↦[chunk (L 1).val]{fullShare} shTab m d (cV L) : sProp 𝕄)
    ⊢ bigSep Finset.univ fun j : Fin (grid0.bound 1) => (bRd m).payload (bcell d (cV L) (j.castLE hsub0)) 0 (jV L).val := by
  show _ ⊢ bigSep Finset.univ fun j : Fin 16 => iprop(shLoc d (cV L) ↦[chunk (L 1).val]{shq j.val} shTab m d (cV L))
  rw [pts_cut (ℓ := shLoc d (cV L)) (chunk (L 1).val) (shTab m d (cV L)) fullShare 16 (by decide)]
  exact .rfl

/-- The rows of all the tiles of a SparseCore are the table's. -/
theorem chunks_all : (Finset.univ : Finset (Fin 16)).biUnion (fun n => chunk n.val) = Finset.univ := by
  refine Finset.eq_univ_of_forall fun x => Finset.mem_biUnion.mpr ?_
  have hx : (x 0).val < 10000 := (x 0).isLt
  refine ⟨⟨min ((x 0).val / 624) 15, by omega⟩, Finset.mem_univ _, mem_band.mpr ?_⟩
  dsimp only
  split <;> omega

theorem chunks_disjoint (a b : Fin 16) (h : a ≠ b) : Disjoint (chunk a.val) (chunk b.val) := by
  have := fun e => h (Fin.ext e)
  refine band_disjoint ?_
  have := a.isLt; have := b.isLt
  split <;> split <;> omega

/-- What a tile's own round has collected is its share of the whole table. -/
theorem pays_take : (bigSep ((bRd m).duties (bcell d (cV L) (jV L)) 0 \ ∅) fun n => (bRd m).payload (bcell d (cV L) (jV L)) 0 n) ⊢ Sh m d L := by
  rw [Finset.sdiff_empty, bRd_duties₀, bigSep_image_of_injOn Fin.val_injective.injOn]
  unfold Sh shPts
  rw [← chunks_all]
  exact Entails.of_eq (pointsTo_biUnion (ℓ := shLoc d (cV L)) (q := shq (L 1).val) (f := shTab m d (cV L)) (Finset.univ : Finset (Fin 16)) (fun n => chunk n.val)
    (fun a _ b _ h => chunks_disjoint a b h)).symm

/-- The barrier: the tile's rows of the table for a share of all of them; its own barrier semaphore ends at zero. -/
theorem barrier_step (hO : ∀ g, O g none = 0) (hOlev : ∀ g ι, 0 < O g ι → 8 * (0 : Fin 1).val + 6 ≤ (K (F := F)).lev g ι)
    {k : PUnit → Prog (TpuEff nD τ sig (Elt F) Λ₀ (.scVector (cV L) (jV L))) α} :
    iprop(levAts (K (F := F)).L (K (F := F)).lev ∗ bkit m d (cV L) (jV L) ∗ (shLoc d (cV L) ↦[chunk (L 1).val]{fullShare} shTab m d (cV L)) ∗ Ow d L (O + oxV d (cV L)) W)
      ⊢ iprop((iprop(Sh m d L ∗ semVal (bcell d (cV L) (jV L)) 0 ∗ Ow d L O W) -∗ Runs d (cV L) (jV L) (k ⟨⟩) Q)
          -∗ Runs d (cV L) (jV L) (SparseCore.subcoreBarrier sc_bar0 (grid0.bound 1) hsub0 >>= k) Q) := by
  unfold bkit Ow Owes
  iintro ⟨#Hlv, ⟨⟨%κ, #Hinv⟩, Htoks, #Hrch, Hat, Hcred⟩, Hsh, -, %W', %hW', HO⟩ Hk
  ihave Hpays := (pays_give m d L) $$ Hsh
  iapply (SparseCore.wp_subcoreBarrier 𝒱₀ none EB (bRd m) d (sc := cV L) (i := jV L) sc_bar0 (grid0.bound 1) hsub0 (L 1) rfl κ (fun _ => 0) (jV L).val
      (fun j => bRd_mem₀ m d _ _ _) (fun _ => rfl) (bRd_expect m d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  imod (Rounds.cell_close EB (bRd m) (g := bcell d (cV L) (jV L)) (Set.mem_univ (κ _)) (fun h => h) (bRd_duties_succ m _)) $$ [Hat] with Hbar
  · isplitr
    · iapply (SparseCore.ent (bigSep_elim (Φ := fun j : Fin (grid0.bound 1) =>
        (cellInv EB (bRd m) (κ (bcell d (cV L) (j.castLE hsub0))) (bcell d (cV L) (j.castLE hsub0)) : sProp 𝕄)) (Finset.mem_univ (L 1)))); iexact Hinv
    · iexact Hat
  iapply Hk
  isplitl [Hgot]; · iapply (pays_take m d L); iexact Hgot
  isplitl [Hbar]; · iexact Hbar
  isplitr
  · iapply (show levAts (K (F := F)).L (K (F := F)).lev ⊢ Transfers.MayWaits (V d (cV L) (jV L)) (default : HIx 1) O from
      (K (F := F)).mayWaits_none (thr := V d (cV L) (jV L)) hO)
    iexact Hlv
  iexists _; isplitr
  swap; · iexact HO
  ipureintro; intro p hp
  rcases Finset.mem_insert.mp hp with hp | hp
  · exact .inr (.inr (hp ▸ rfl))
  · exact hW' p hp

/-! ## The first gather, out of the table itself -/

/-- The first gather in flight: its first 104 rows of the result, and what it reads. -/
def GathX (q : PosShare TreeShare) : sProp 𝕄 :=
  iprop(Fly d (cV L) (jV L) cc0_scratch5.sem (r0V).view.dmaCredit iprop(Full m d L r0V 0 ∗ xPts m d q ∗ lPts m d L (ents 0 104)) ∗ lPts m d L (lAll L \ ents 0 104))

theorem gather_x (hpre : PreOK m) {q : PosShare TreeShare} {hp hsrc he hsp hrr} {hn : S104.numel = S104x128.size gathers_S10000x128_S104x128.axis'}
    {k : PUnit → Prog (TpuEff nD τ sig (Elt F) Λ₀ (.scVector (cV L) (jV L))) α} :
    iprop(xPts m d q ∗ Fr (F := F) d L r0V ∗ lPts m d L (lAll L) ∗ Z (F := F) d L cc0_scratch5.sem)
      ⊢ iprop((GathX m d L q -∗ Runs d (cV L) (jV L) (k ⟨⟩) Q)
          -∗ Runs d (cV L) (jV L) (SparseCore.enqueueIndirectGather hp xAll r0V gathers_S10000x128_S104x128
              ((lV).slice (Rect.unit (s := S3280) ![0] S104.size inb_S3280_S104_0) (fun _ => rfl)) hn cc0_scratch5.sem hsrc he hsp hrr >>= k) Q) := by
  have hb := bs_ln_le L
  have hln := ln_ge L
  have hS : ((lV).slice (Rect.unit (s := S3280) ![0] S104.size inb_S3280_S104_0) (fun _ => rfl)).view.set ⊆ lAll L := by
    rw [show ((lV).slice (Rect.unit (s := S3280) ![0] S104.size inb_S3280_S104_0) (fun _ => rfl)).view.set = ents 0 104 from set_l rfl]
    exact band_subset (Nat.zero_le _) (by omega)
  have H := gather_step (F := F) d (cV L) (jV L) (src := xAll) (R := r0V) (hg := gathers_S10000x128_S104x128)
    (offs := (lV).slice (Rect.unit (s := S3280) ![0] S104.size inb_S3280_S104_0) (fun _ => rfl)) (hn := hn) (sem := cc0_scratch5.sem) (hp := hp) (hsrc := hsrc)
    (he := he) (hsp := hsp) (hr := hrr) (k := k) (Q := Q) (q := q) (fs := m (xLoc d)) (fo := listBuf m d L) hS (credit_r0 _) (by decide)
    (list_lt m d L hpre (h := 104) rfl) (gather_val m d L hpre (b := 0) (h := 104) rfl (by omega) _ hn _ (read_xAll d _) _)
  rw [set_xAll, show ((lV).slice (Rect.unit (s := S3280) ![0] S104.size inb_S3280_S104_0) (fun _ => rfl)).view.set = ents 0 104 from set_l rfl] at H
  exact H

theorem gath_wait_x {q : PosShare TreeShare} {sp' : Space} {s' : Shape} {e' : EltTy} {src : Memref sig .scVector sp' s' e'} {hsrc hdst}
    {k : PUnit → Prog (TpuEff nD τ sig (Elt F) Λ₀ (.scVector (cV L) (jV L))) α} :
    iprop(GathX m d L q ∗ Ow d L O W)
      ⊢ iprop((iprop(Full m d L r0V 0 ∗ xPts m d q ∗ lPts m d L (lAll L) ∗ Z (F := F) d L cc0_scratch5.sem ∗ Ow d L O W) -∗ Runs d (cV L) (jV L) (k ⟨⟩) Q)
          -∗ Runs d (cV L) (jV L) (SparseCore.waitIndirectGather cc0_scratch5.sem src r0V hsrc hdst >>= k) Q) := by
  have hln := ln_ge L
  unfold GathX
  iintro ⟨⟨Hf, Hrest⟩, HO⟩ Hk
  iapply (wait_step d (cV L) (jV L) (srcw := src) (dstw := r0V) (hsrc := hsrc) (hdst := hdst) rfl) $$ [Hf HO]
  · isplitl [Hf]; · iexact Hf
    iexact HO
  iintro ⟨⟨HR, Hx, Hl⟩, Hz, HO⟩
  iapply Hk
  isplitl [HR]; · iexact HR
  isplitl [Hx]; · iexact Hx
  isplitl [Hl Hrest]
  · iapply (pointsTo_split_subset (show ents 0 104 ⊆ lAll L from band_subset (Nat.zero_le _) (by omega))).2
    isplitl [Hl]; · iexact Hl
    iexact Hrest
  isplitl [Hz]; · iexact Hz
  iexact HO

/-- The tile's start, whole: what it takes of the call's, and what is in flight after it. -/
theorem part3_ok (hpre : PreOK m)
    (hO : ∀ g, O g none = 0) (hOlev : ∀ g ι, 0 < O g ι → 8 * (0 : Fin 1).val + 6 ≤ (K (F := F)).lev g ι) {q : PosShare TreeShare} :
    iprop(levAts (K (F := F)).L (K (F := F)).lev ∗ bkit m d (cV L) (jV L) ∗ xPts m d q ∗ iPts m d q
       ∗ (∃ f, shLoc d (cV L) ↦[chunk (L 1).val]{fullShare} f)
       ∗ (∃ f, (lV).view.loc (V d (cV L) (jV L)) ↦[Finset.univ]{fullShare} f) ∗ Fr (F := F) d L r0V ∗ Fr (F := F) d L r1V
       ∗ Todo m d L (0) ∗ Z (F := F) d L cc0_scoped0.sem ∗ Z (F := F) d L cc0_scoped1.sem ∗ Z (F := F) d L cc0_scoped2.sem
       ∗ Z (F := F) d L cc0_scoped3.sem ∗ Z (F := F) d L cc0_scratch5.sem ∗ Z (F := F) d L cc0_scratch6.sem
       ∗ Z (F := F) d L cc0_scratch8.sem ∗ Ow d L (O + oxV d (cV L)) W)
      ⊢ Runs d (cV L) (jV L) (part3 (F := F) L) fun a =>
        iprop(⌜a.1 = wid L⌝ ∗ Wfly m d L r0V cc0_scratch8.sem (0) ∗ Gath m d L r1V cc0_scratch6.sem (104) ∗ Todo m d L (104) ∗ xPts m d q
         ∗ iPts m d q ∗ lRest (F := F) d L ∗ semVal (bcell d (cV L) (jV L)) 0 ∗ Z (F := F) d L cc0_scoped0.sem
         ∗ Z (F := F) d L cc0_scoped1.sem ∗ Z (F := F) d L cc0_scoped2.sem ∗ Z (F := F) d L cc0_scoped3.sem
         ∗ Z (F := F) d L cc0_scratch5.sem ∗ Ow d L O W) := by
  have hln := ln_ge L
  unfold part3; rw [k0_part3_eq_skeleton]; unfold k0_part3_skel; dsimp only
  iintro ⟨#Hlv, Hkit, Hx, Hi, Hsh, Hl, HR0, HR1, HT, Hzs0, Hzs1, Hzs2, Hzs3, Hzg0, Hzg1, Hzw0, HO⟩
  iapply (list_in m d L) $$ [Hi Hl Hzs0 Hzs1 HO]
  · isplitl [Hi]; · iexact Hi
    isplitl [Hl]; · iexact Hl
    isplitl [Hzs0]; · iexact Hzs0
    isplitl [Hzs1]; · iexact Hzs1
    iexact HO
  iintro ⟨Hi, Hl, Hlr, Hzs0, Hzs1, HO⟩
  iapply (table_in m d L) $$ [Hx Hsh Hzs2 Hzs3 HO]
  · isplitl [Hx]; · iexact Hx
    isplitl [Hsh]; · iexact Hsh
    isplitl [Hzs2]; · iexact Hzs2
    isplitl [Hzs3]; · iexact Hzs3
    iexact HO
  iintro ⟨Hx, Hsh, Hzs2, Hzs3, HO⟩
  iapply (gather_x m d L hpre) $$ [Hx HR0 Hl Hzg0]
  · isplitl [Hx]; · iexact Hx
    isplitl [HR0]; · iexact HR0
    isplitl [Hl]; · iexact Hl
    iexact Hzg0
  iintro HG0
  iapply (barrier_step m d L hO hOlev) $$ [Hkit Hsh HO]
  · isplitr; · iexact Hlv
    isplitl [Hkit]; · iexact Hkit
    isplitl [Hsh]; · iexact Hsh
    iexact HO
  iintro ⟨Hsh, Hbar, HO⟩
  iapply (gath_wait_x m d L) $$ [HG0 HO]
  · isplitl [HG0]; · iexact HG0
    iexact HO
  iintro ⟨HR0, Hx, Hl, Hzg0, HO⟩
  iapply (write_out m d L (h := 104) (r := 0) (off4 L 0) (by omega) (by decide)) $$ [HR0 HT Hzw0]
  · isplitl [HR0]; · iexact HR0
    isplitl [HT]; · iexact HT
    iexact Hzw0
  iintro ⟨HW0, HT⟩
  iapply (gather_sh m d L hpre (h := 104) (r := 104) (rfl) (by omega) (by decide) (credit_r1 _)) $$ [Hsh HR1 Hl Hzg1]
  · isplitl [Hsh]; · iexact Hsh
    isplitl [HR1]; · iexact HR1
    isplitl [Hl]; · iexact Hl
    iexact Hzg1
  iintro HG1
  iapply (le_wp_ret _ _ _ _ _)
  isplitr; · ipureintro; rfl
  isplitl [HW0]; · iexact HW0
  isplitl [HG1]; · iexact HG1
  isplitl [HT]; · iexact HT
  isplitl [Hx]; · iexact Hx
  isplitl [Hi]; · iexact Hi
  isplitl [Hlr]; · iexact Hlr
  isplitl [Hbar]; · iexact Hbar
  isplitl [Hzs0]; · iexact Hzs0
  isplitl [Hzs1]; · iexact Hzs1
  isplitl [Hzs2]; · iexact Hzs2
  isplitl [Hzs3]; · iexact Hzs3
  isplitl [Hzg0]; · iexact Hzg0
  iexact HO

end Cert.Proof
-- ==== Proof.Tile.lean ====
/-
  A tile, whole: its start, its visits, its end, from what the sequencer hands it to what it hands back.
-/
module

public import proofs.«01_k».proof.Proof.Start

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_arg0_scv : Memref Cert.KernelIdeal.sig Kind.scVector Space.hbm Cert.KernelIdeal.S10000x128 EltTy.f32)
local notation "iV" => (Memref.whole Cert.KernelIdeal.main_arg1_scv : Memref Cert.KernelIdeal.sig Kind.scVector Space.hbm Cert.KernelIdeal.S100000 EltTy.i32)
local notation "oV" => (Memref.whole Cert.KernelIdeal.main_v0_scv : Memref Cert.KernelIdeal.sig Kind.scVector Space.hbm Cert.KernelIdeal.S100000x128 EltTy.f32)
local notation "shV" => (Memref.whole Cert.KernelIdeal.cc0_scratch0 : Memref Cert.KernelIdeal.sig Kind.scVector Space.shared Cert.KernelIdeal.S10000x128 EltTy.f32)
local notation "lV" => (Memref.whole Cert.KernelIdeal.cc0_scratch1 : Memref Cert.KernelIdeal.sig Kind.scVector Space.vmem Cert.KernelIdeal.S3280 EltTy.i32)
local notation "r0V" => (Memref.whole Cert.KernelIdeal.cc0_scratch2 : Memref Cert.KernelIdeal.sig Kind.scVector Space.vmem Cert.KernelIdeal.S104x128 EltTy.f32)
local notation "r1V" => (Memref.whole Cert.KernelIdeal.cc0_scratch3 : Memref Cert.KernelIdeal.sig Kind.scVector Space.vmem Cert.KernelIdeal.S104x128 EltTy.f32)
local notation "r2V" => (Memref.whole Cert.KernelIdeal.cc0_scratch4 : Memref Cert.KernelIdeal.sig Kind.scVector Space.vmem Cert.KernelIdeal.S104x128 EltTy.f32)

variable (m : (ℓ : Loc nD τ sig) → Buf (Elt F) ℓ) (d : Dev nD) (L : grid0.Coords)

/-- A collection over `s`: the members that `f` names one by one, apart from the others. -/
theorem named_apart {α β : Type} [DecidableEq α] [DecidableEq β] [Fintype β] {s : Finset α} {f : β → α} (inj : Function.Injective f) (mem : ∀ b, f b ∈ s)
    (Φ : α → sProp (MT nD τ sig (HIx 1) (Elt F) ℕ UU ℕ)) :
    bigSep s Φ = iprop(bigSep (Finset.univ : Finset β) (Φ ∘ f) ∗ bigSep (s \ (Finset.univ : Finset β).image f) Φ) := by
  have sub : (Finset.univ : Finset β).image f ⊆ s := Finset.image_subset_iff.mpr fun b _ => mem b
  exact (SparseCore.bigSep_sdiff_split' sub).trans (congrArg (fun p => iprop(p ∗ bigSep (s \ (Finset.univ : Finset β).image f) Φ))
    (SparseCore.bigSep_image_of_injOn inj.injOn Φ))

/-! ## The tile's own semaphores and buffers -/

/-- Its DMA semaphore of number `n`, and its buffer of number `n`. -/
abbrev semOf (n : Fin 12) : GSem nD τ sig := (V d (cV L) (jV L), .dma n)
abbrev bufOf (n : Fin 4) : DevRef τ sig := (Proc.scVector (cV L) (jV L)).devRef (⟨.vmem, n, rfl⟩ : Ref sig .scVector)

theorem semOf_inj : Function.Injective (semOf d L) := fun _ _ h => SemLoc.dma.inj (Prod.mk.inj h).2
theorem semOf_mem (n : Fin 12) : semOf d L n ∈ ownCells (V d (cV L) (jV L)) :=
  mem_ownCells.mpr ⟨rfl, by show (SemLoc.dma n : SemLoc sig).isScoped .scVector = true; revert n; decide⟩
theorem bufOf_inj : Function.Injective (bufOf L) := fun a b h => by
  have := congrArg (fun r : DevRef τ sig => r.idx.val) h
  exact Fin.ext this
theorem bufOf_mem (n : Fin 4) : bufOf L n ∈ ownRefs (τ := τ) (.scVector (cV L) (jV L)) :=
  SparseCore.Cfg.mem_ownRefs_of_owner (p := Proc.scVector (cV L) (jV L)) rfl

/-- Of its own semaphores and buffers, those that are not named above. -/
abbrev rSems : sProp 𝕄 := bigSep (ownCells (V d (cV L) (jV L)) \ (Finset.univ : Finset (Fin 12)).image (semOf d L)) fun g => semVal g 0
abbrev rBufs : sProp 𝕄 :=
  bigSep (ownRefs (τ := τ) (.scVector (cV L) (jV L)) \ (Finset.univ : Finset (Fin 4)).image (bufOf L)) fun b => iprop(∃ f, ((d, b) : Loc nD τ sig) ↦{fullShare} f)

theorem ownSems0_V : (ownSems0 (V d (cV L) (jV L)) : sProp 𝕄)
    = iprop((Z (F := F) d L cc0_scratch5.sem ∗ Z (F := F) d L cc0_scratch6.sem ∗ Z (F := F) d L cc0_scratch7.sem ∗ Z (F := F) d L cc0_scratch8.sem ∗ Z (F := F) d L cc0_scratch9.sem ∗ Z (F := F) d L cc0_scratch10.sem
          ∗ Z (F := F) d L cc0_scratch11.sem ∗ Z (F := F) d L cc0_scratch12.sem ∗ Z (F := F) d L cc0_scoped0.sem ∗ Z (F := F) d L cc0_scoped1.sem ∗ Z (F := F) d L cc0_scoped2.sem ∗ Z (F := F) d L cc0_scoped3.sem)
        ∗ rSems (F := F) d L) := by
  unfold SparseCore.Cfg.ownSems0
  rw [named_apart (semOf_inj d L) (semOf_mem d L),
    bigSep_univ_eq_bigSepL [0, 1, 2, 3, 4, 5, 6, 7, 8, 9, 10, 11] (by decide) (by decide)]
  rfl

theorem fr_whole (b : Ref sig .scVector) (f : Buf (Elt F) ((V d (cV L) (jV L)).loc b)) :
    ((V d (cV L) (jV L)).loc b ↦[(View.whole b).set]{fullShare} f : sProp 𝕄) = ((V d (cV L) (jV L)).loc b ↦{fullShare} f) := by
  rw [View.set_whole]

theorem ownBufs_V : (ownBufs (V d (cV L) (jV L)) : sProp 𝕄)
    = iprop(((∃ f, (lV).view.loc (V d (cV L) (jV L)) ↦[Finset.univ]{fullShare} f) ∗ Fr (F := F) d L r0V ∗ Fr (F := F) d L r1V ∗ Fr (F := F) d L r2V)
        ∗ rBufs (F := F) d L) := by
  unfold SparseCore.Cfg.ownBufs
  rw [named_apart (bufOf_inj L) (bufOf_mem L),
    bigSep_univ_eq_bigSepL [0, 1, 2, 3] (by decide) (by decide)]
  have e (R : Memref sig .scVector .vmem S104x128 .f32) (h : R.view.set = Finset.univ) :
      Fr (F := F) d L R = iprop(∃ f, R.view.loc (V d (cV L) (jV L)) ↦{fullShare} f) := by unfold Fr Free; rw [h]
  rw [e r0V (View.set_whole _), e r1V (View.set_whole _), e r2V (View.set_whole _)]
  rfl

/-- The list's memory, in its two parts, is it whole. -/
theorem l_join : iprop(lPts m d L (lAll L) ∗ lRest (F := F) d L) ⊢ iprop(∃ f, (lV).view.loc (V d (cV L) (jV L)) ↦[Finset.univ]{fullShare} f) := by
  iintro ⟨Hl, %f, Hr⟩
  iexists _
  iapply (pointsTo_join_subset (Finset.subset_univ (lAll L)))
  isplitl [Hl]; · iexact Hl
  iexact Hr

variable [FloatOps F] {O : CellTallies nD τ sig (HIx 1)} {W : Waits sig (HIx 1)}

/-- A tile's program. -/
abbrev tileProg (L : grid0.Coords) := cc0_gather_kernel (F := F) L xV (Memref.isWhole_whole _) iV (Memref.isWhole_whole _) oV (Memref.isWhole_whole _) shV (Memref.isWhole_whole _) lV (Memref.isWhole_whole _)
    r0V (Memref.isWhole_whole _) r1V (Memref.isWhole_whole _) r2V (Memref.isWhole_whole _) cc0_scratch5 cc0_scratch6 cc0_scratch7 cc0_scratch8 cc0_scratch9 cc0_scratch10
    cc0_scratch11 cc0_scratch12 cc0_scoped0 cc0_scoped1 cc0_scoped2 cc0_scoped3

/-- What a tile leaves. -/
abbrev tileOK (O : CellTallies nD τ sig (HIx 1)) (W : Waits sig (HIx 1)) : sProp 𝕄 :=
  iprop((tdPay m d (cV L) (L 1).val ∗ semVal (bcell d (cV L) (jV L)) 0)
    ∗ scopedBufs (V d (cV L) (jV L)) ∗ scopedSems0 (V d (cV L) (jV L))
    ∗ ∃ W', ⌜∀ p ∈ W', p ∈ W ∨ p.2 = none ∨ p.2 = some (0 : Fin 1)⌝ ∗ owes (V d (cV L) (jV L)) O W')

/-- What is in hand at a tile's end is what it leaves. -/
theorem tile_end (hF : (K (F := F)).Facts) :
    iprop(xPts m d (tq (L 0).val (L 1).val) ∗ iPts m d (tq (L 0).val (L 1).val) ∗ Done m d L (ln L) ∗ Sh m d L
       ∗ semVal (bcell d (cV L) (jV L)) 0 ∗ lPts m d L (lAll L) ∗ lRest (F := F) d L ∗ Fr (F := F) d L r0V ∗ Fr (F := F) d L r1V
       ∗ Fr (F := F) d L r2V ∗ rBufs (F := F) d L ∗ Z (F := F) d L cc0_scratch5.sem ∗ Z (F := F) d L cc0_scratch6.sem
       ∗ Z (F := F) d L cc0_scratch7.sem ∗ Z (F := F) d L cc0_scratch8.sem ∗ Z (F := F) d L cc0_scratch9.sem
       ∗ Z (F := F) d L cc0_scratch10.sem ∗ Z (F := F) d L cc0_scratch11.sem ∗ Z (F := F) d L cc0_scratch12.sem
       ∗ Z (F := F) d L cc0_scoped0.sem ∗ Z (F := F) d L cc0_scoped1.sem ∗ Z (F := F) d L cc0_scoped2.sem
       ∗ Z (F := F) d L cc0_scoped3.sem ∗ rSems (F := F) d L ∗ Ow d L O W)
      ⊢ tileOK m d L O W := by
  unfold tileOK
  rw [(K (F := F)).scopedBufs_V hF d (cV L) (jV L), SparseCore.Cfg.scopedSems0_V (Val := Elt F) d (cV L) (jV L), ownSems0_V, ownBufs_V]
  iintro ⟨Hx, Hi, HD, Hsh, Hbar, Hl, Hlr, HR0, HR1, HR2, Hrb, Hzg0, Hzg1, Hzg2, Hzw0, Hzw1, Hzw2, HzgT, HzwT, Hzs0, Hzs1, Hzs2, Hzs3, Hrs, HO⟩
  isplitl [Hx Hi HD Hsh Hbar]
  · isplitr [Hbar]; swap; · iexact Hbar
    isplitl [Hx]; · iexact Hx
    isplitl [Hi]; · iexact Hi
    isplitl [HD]; · iexact HD
    iexact Hsh
  isplitl [Hl Hlr HR0 HR1 HR2 Hrb]
  · isplitr [Hrb]; swap; · iexact Hrb
    isplitl [Hl Hlr]
    · iapply (l_join m d L)
      isplitl [Hl]; · iexact Hl
      iexact Hlr
    isplitl [HR0]; · iexact HR0
    isplitl [HR1]; · iexact HR1
    iexact HR2
  isplitl [Hzg0 Hzg1 Hzg2 Hzw0 Hzw1 Hzw2 HzgT HzwT Hzs0 Hzs1 Hzs2 Hzs3 Hrs]
  · isplitr [Hrs]; swap; · iexact Hrs
    isplitl [Hzg0]; · iexact Hzg0
    isplitl [Hzg1]; · iexact Hzg1
    isplitl [Hzg2]; · iexact Hzg2
    isplitl [Hzw0]; · iexact Hzw0
    isplitl [Hzw1]; · iexact Hzw1
    isplitl [Hzw2]; · iexact Hzw2
    isplitl [HzgT]; · iexact HzgT
    isplitl [HzwT]; · iexact HzwT
    isplitl [Hzs0]; · iexact Hzs0
    isplitl [Hzs1]; · iexact Hzs1
    isplitl [Hzs2]; · iexact Hzs2
    iexact Hzs3
  unfold Ow Owes
  icases HO with ⟨-, HO⟩
  iexact HO

/-- What a tile owes at its start; nothing of the result is written. -/
theorem owes_in (hO : ∀ g, O g none = 0) :
    iprop(levAts (K (F := F)).L (K (F := F)).lev ∗ owes (V d (cV L) (jV L)) (O + oxV d (cV L)) W) ⊢ Ow (F := F) d L (O + oxV d (cV L)) W := by
  unfold Ow Owes
  iintro ⟨#Hlv, HO⟩
  isplitr
  · iapply (show levAts (K (F := F)).L (K (F := F)).lev ⊢ Transfers.MayWaits (V d (cV L) (jV L)) (default : HIx 1) (O + oxV d (cV L)) from
      (K (F := F)).mayWaits_none (thr := V d (cV L) (jV L)) (fun g => by rw [Pi.add_apply, Finsupp.add_apply, hO g, oxV_none]))
    iexact Hlv
  iexists W; isplitr
  swap; · iexact HO
  ipureintro; exact fun p hp => .inl hp

theorem done_none : (iprop(emp) : sProp 𝕄) ⊢ Done m d L 0 := by
  have : oRows (bs L) 0 = ∅ := Finset.eq_empty_of_forall_notMem fun x hx => by rw [mem_band] at hx; omega
  unfold Done oPts
  rw [this, pointsTo_empty]

/-- A tile, whole. -/
theorem tile_ok (hpre : PreOK m) (hF : (K (F := F)).Facts) (hO : ∀ g, O g none = 0)
    (hOlev : ∀ g ι, 0 < O g ι → 8 * (0 : Fin 1).val + 6 ≤ (K (F := F)).lev g ι) :
    iprop(levAts (K (F := F)).L (K (F := F)).lev ∗ bkit m d (cV L) (jV L) ∗ goPay m d (cV L) (L 1).val
        ∗ scopedBufs (V d (cV L) (jV L)) ∗ scopedSems0 (V d (cV L) (jV L)) ∗ owes (V d (cV L) (jV L)) (O + oxV d (cV L)) W)
      ⊢ Runs d (cV L) (jV L) (tileProg (F := F) L) fun _ => tileOK m d L O W := by
  unfold tileProg; rw [cc0_gather_kernel_eq_skeleton]; unfold cc0_gather_kernel_skel; dsimp only
  rw [(K (F := F)).scopedBufs_V hF d (cV L) (jV L), SparseCore.Cfg.scopedSems0_V (Val := Elt F) d (cV L) (jV L), ownSems0_V, ownBufs_V]
  iintro ⟨#Hlv, Hkit, ⟨Hx, Hi, HT, Hsh⟩, ⟨⟨Hl, HR0, HR1, HR2⟩, Hrb⟩, ⟨⟨Hzg0, Hzg1, Hzg2, Hzw0, Hzw1, Hzw2, HzgT, HzwT, Hzs0, Hzs1, Hzs2, Hzs3⟩, Hrs⟩, HO⟩
  ihave HO := (owes_in (F := F) d L hO) $$ [HO]
  · isplitr; · iexact Hlv
    iexact HO
  ihave HD := (done_none m d L) $$ []
  · iempintro
  iapply (runs_then d (part3_ok m d L hpre hO hOlev (q := tq (L 0).val (L 1).val) (W := W))) $$ [Hkit Hx Hi Hsh Hl HR0 HR1 HT Hzs0 Hzs1 Hzs2 Hzs3 Hzg0 Hzg1 Hzw0 HO]
  · isplitr; · iexact Hlv
    isplitl [Hkit]; · iexact Hkit
    isplitl [Hx]; · iexact Hx
    isplitl [Hi]; · iexact Hi
    isplitl [Hsh]; · iexact Hsh
    isplitl [Hl]; · iexact Hl
    isplitl [HR0]; · iexact HR0
    isplitl [HR1]; · iexact HR1
    isplitl [HT]; · iexact HT
    isplitl [Hzs0]; · iexact Hzs0
    isplitl [Hzs1]; · iexact Hzs1
    isplitl [Hzs2]; · iexact Hzs2
    isplitl [Hzs3]; · iexact Hzs3
    isplitl [Hzg0]; · iexact Hzg0
    isplitl [Hzg1]; · iexact Hzg1
    isplitl [Hzw0]; · iexact Hzw0
    iexact HO
  iintro %a ⟨%ha, HW0, HG1, HT, Hx, Hi, Hlr, Hbar, Hzs0, Hzs1, Hzs2, Hzs3, Hzg0, HO⟩
  obtain ⟨v1, v2⟩ := a
  obtain rfl : v1 = wid L := ha
  dsimp only
  iapply (runs_then d (part4_ok m d L hpre v2)) $$ [HW0 HG1 HD HT HR2 Hzg0 Hzg2 Hzw1 Hzw2 HO]
  · isplitl [HW0]; · iexact HW0
    isplitl [HG1]; · iexact HG1
    isplitl [HD]; · iexact HD
    isplitl [HT]; · iexact HT
    isplitl [HR2]; · iexact HR2
    isplitl [Hzg0]; · iexact Hzg0
    isplitl [Hzg2]; · iexact Hzg2
    isplitl [Hzw1]; · iexact Hzw1
    isplitl [Hzw2]; · iexact Hzw2
    iexact HO
  iintro %_ ⟨HR0, Hsh, Hl, HW1, HW2, HD, HT, Hzg1, Hzg2, Hzw0, Hzg0, HO⟩
  iapply (runs_then d (part5_ok m d L hpre v2)) $$ [HR0 Hsh Hl HW1 HW2 HD HT Hzg1 Hzg2 Hzw0 HO]
  · isplitl [HR0]; · iexact HR0
    isplitl [Hsh]; · iexact Hsh
    isplitl [Hl]; · iexact Hl
    isplitl [HW1]; · iexact HW1
    isplitl [HW2]; · iexact HW2
    isplitl [HD]; · iexact HD
    isplitl [HT]; · iexact HT
    isplitl [Hzg1]; · iexact Hzg1
    isplitl [Hzg2]; · iexact Hzg2
    isplitl [Hzw0]; · iexact Hzw0
    iexact HO
  iintro %_ ⟨HW0, HW1, HW2, Hsh, Hl, HD, HT, Hzg1, Hzg2, HO⟩
  iapply (write_wait m d L (h := 104) (r := 2808)) $$ [HW0 HD HO]
  · isplitl [HW0]; · iexact HW0
    isplitl [HD]; · iexact HD
    iexact HO
  iintro ⟨HR0, HD, Hzw0, HO⟩
  iapply (write_wait m d L (h := 104) (r := 2912)) $$ [HW1 HD HO]
  · isplitl [HW1]; · iexact HW1
    isplitl [HD]; · iexact HD
    iexact HO
  iintro ⟨HR1, HD, Hzw1, HO⟩
  iapply (write_wait m d L (h := 104) (r := 3016)) $$ [HW2 HD HO]
  · isplitl [HW2]; · iexact HW2
    isplitl [HD]; · iexact HD
    iexact HO
  iintro ⟨HR2, HD, Hzw2, HO⟩
  by_cases hw : 2 * (L 1).val + (L 0).val = 31
  · have hln : ln L = 3280 := by unfold ln len; rw [if_pos hw]
    have hbs : bs L = 96720 := by have := L0_lt L; have := L1_lt L; unfold bs base; omega
    rw [dif_pos ((wid_iff L).mpr hw)]
    iapply (runs_then d (part2_ok m d L hpre hln hbs)) $$ [HR0 Hsh Hl HD HT Hzg0 Hzw0 HzgT HzwT HO]
    · isplitl [HR0]; · iexact HR0
      isplitl [Hsh]; · iexact Hsh
      isplitl [Hl]; · iexact Hl
      isplitl [HD]; · iexact HD
      isplitl [HT]; · iexact HT
      isplitl [Hzg0]; · iexact Hzg0
      isplitl [Hzw0]; · iexact Hzw0
      isplitl [HzgT]; · iexact HzgT
      isplitl [HzwT]; · iexact HzwT
      iexact HO
    iintro %_ ⟨HWT, Hrest, Hsh, Hl, HD, HT, Hzg0, Hzw0, HzgT, HO⟩
    iapply (write_wait m d L (h := 56) (r := 3224)) $$ [HWT HD HO]
    · isplitl [HWT]; · iexact HWT
      isplitl [HD]; · iexact HD
      iexact HO
    iintro ⟨HR3, HD, HzwT, HO⟩
    ihave HR0 := (r0_join (F := F) d L) $$ [HR3 Hrest]
    · isplitl [HR3]; · iexact HR3
      iexact Hrest
    iapply (le_wp_ret _ _ _ _ _)
    iapply (tile_end m d L hF)
    rw [hln]
    isplitl [Hx]; · iexact Hx
    isplitl [Hi]; · iexact Hi
    isplitl [HD]; · iexact HD
    isplitl [Hsh]; · iexact Hsh
    isplitl [Hbar]; · iexact Hbar
    isplitl [Hl]; · iexact Hl
    isplitl [Hlr]; · iexact Hlr
    isplitl [HR0]; · iexact HR0
    isplitl [HR1]; · iexact HR1
    isplitl [HR2]; · iexact HR2
    isplitl [Hrb]; · iexact Hrb
    isplitl [Hzg0]; · iexact Hzg0
    isplitl [Hzg1]; · iexact Hzg1
    isplitl [Hzg2]; · iexact Hzg2
    isplitl [Hzw0]; · iexact Hzw0
    isplitl [Hzw1]; · iexact Hzw1
    isplitl [Hzw2]; · iexact Hzw2
    isplitl [HzgT]; · iexact HzgT
    isplitl [HzwT]; · iexact HzwT
    isplitl [Hzs0]; · iexact Hzs0
    isplitl [Hzs1]; · iexact Hzs1
    isplitl [Hzs2]; · iexact Hzs2
    isplitl [Hzs3]; · iexact Hzs3
    isplitl [Hrs]; · iexact Hrs
    iexact HO
  · have hln : ln L = 3120 := by unfold ln len; rw [if_neg hw]
    rw [dif_neg (fun h => hw ((wid_iff L).mp h))]
    iapply (le_wp_ret _ _ _ _ _)
    iapply (tile_end m d L hF)
    rw [hln]
    isplitl [Hx]; · iexact Hx
    isplitl [Hi]; · iexact Hi
    isplitl [HD]; · iexact HD
    isplitl [Hsh]; · iexact Hsh
    isplitl [Hbar]; · iexact Hbar
    isplitl [Hl]; · iexact Hl
    isplitl [Hlr]; · iexact Hlr
    isplitl [HR0]; · iexact HR0
    isplitl [HR1]; · iexact HR1
    isplitl [HR2]; · iexact HR2
    isplitl [Hrb]; · iexact Hrb
    isplitl [Hzg0]; · iexact Hzg0
    isplitl [Hzg1]; · iexact Hzg1
    isplitl [Hzg2]; · iexact Hzg2
    isplitl [Hzw0]; · iexact Hzw0
    isplitl [Hzw1]; · iexact Hzw1
    isplitl [Hzw2]; · iexact Hzw2
    isplitl [HzgT]; · iexact HzgT
    isplitl [HzwT]; · iexact HzwT
    isplitl [Hzs0]; · iexact Hzs0
    isplitl [Hzs1]; · iexact Hzs1
    isplitl [Hzs2]; · iexact Hzs2
    isplitl [Hzs3]; · iexact Hzs3
    isplitl [Hrs]; · iexact Hrs
    iexact HO

end Cert.Proof
-- ==== Proof.Launch.lean ====
/-
  The launch: a call's operands cut for the tiles and put together again, the barriers' ghost state, the program's entry
  on the TensorCore, and the run of the whole program. What is proved of the run: it ends, the result is `OUT`, the table
  and the list are as they were, and every semaphore is at zero.
-/
module

public import proofs.«01_k».proof.Proof.Tile

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## The rows of the result, cut for the tiles -/

theorem tileOut_disjoint : ∀ a ∈ (Finset.univ : Finset (Fin 2 × Fin 16)), ∀ b ∈ (Finset.univ : Finset (Fin 2 × Fin 16)), a ≠ b →
    Disjoint (tileOut a.1.val a.2.val) (tileOut b.1.val b.2.val) := by
  rintro ⟨⟨c, hc⟩, ⟨i, hi⟩⟩ - ⟨⟨c', hc'⟩, ⟨i', hi'⟩⟩ - h
  have h' : ¬ (c = c' ∧ i = i') := fun e => h (by obtain ⟨rfl, rfl⟩ := e; rfl)
  refine band_disjoint ?_
  dsimp only [base, len]
  split <;> split <;> omega

theorem tileOut_cover : (Finset.univ : Finset (Fin 2 × Fin 16)).biUnion (fun a => tileOut a.1.val a.2.val) = Finset.univ := by
  refine Finset.eq_univ_of_forall fun x => Finset.mem_biUnion.mpr ?_
  have hx : (x 0).val < 100000 := (x 0).isLt
  by_cases h : 96720 ≤ (x 0).val
  · refine ⟨((1 : Fin 2), (15 : Fin 16)), Finset.mem_univ _, mem_band.mpr ?_⟩
    show base 1 15 ≤ _ ∧ _ < base 1 15 + len 1 15
    unfold base len; rw [if_pos rfl]; omega
  · refine ⟨((⟨(x 0).val / 3120 % 2, by omega⟩ : Fin 2), (⟨(x 0).val / 6240, by omega⟩ : Fin 16)), Finset.mem_univ _, mem_band.mpr ?_⟩
    dsimp only [base, len]
    split <;> omega

/-- The result held whole is every tile's rows of it held. -/
theorem out_cut (d : Dev nD) (f : Buf (Elt F) (oLoc d)) :
    (bigSep Finset.univ fun c : Fin 2 => bigSep Finset.univ fun i : Fin 16 => oPts d (tileOut c.val i.val) f : sProp 𝕄) = (oLoc d ↦{fullShare} f) := by
  rw [← bigSep_univ_prod (fun a : Fin 2 × Fin 16 => (oPts d (tileOut a.1.val a.2.val) f : sProp 𝕄))]
  rw [← pointsTo_biUnion Finset.univ (ℓ := oLoc d) (fun a : Fin 2 × Fin 16 => tileOut a.1.val a.2.val) tileOut_disjoint, tileOut_cover]

/-- What the call hands its two SparseCores: the table, the list and the result, whole. -/
theorem st_whole (d : Dev nD) (f : Buf (Elt F) (oLoc d)) :
    (bigSep Finset.univ fun c : Fin 2 => stPay m d c.val f : sProp 𝕄) = iprop(xPts m d fullShare ∗ iPts m d fullShare ∗ oLoc d ↦{fullShare} f) := by
  unfold stPay xPts iPts
  rw [bigSep_sep', bigSep_sep', out_cut, pts_cut (ℓ := xLoc d) Finset.univ (m (xLoc d)) fullShare 2 (by decide),
    pts_cut (ℓ := iLoc d) Finset.univ (m (iLoc d)) fullShare 2 (by decide)]

/-- The shared memory held whole is its chunks held. -/
theorem sh_chunks (d : Dev nD) (c : Fin τ.nSC) (f : Buf (Elt F) (shLoc d c)) :
    (shLoc d c ↦{fullShare} f : sProp 𝕄) = bigSep Finset.univ fun i : Fin 16 => shLoc d c ↦[chunk i.val]{fullShare} f := by
  rw [← pointsTo_biUnion Finset.univ (ℓ := shLoc d c) (fun i : Fin 16 => chunk i.val) (fun a _ b _ h => chunks_disjoint a b h), chunks_all]

/-- What a SparseCore is handed, and its shared memory: what each of its tiles is handed. -/
theorem go_deal (d : Dev nD) (c : Fin τ.nSC) :
    iprop(stPay m d c.val (m (oLoc d)) ∗ ∃ f, shLoc d c ↦{fullShare} f) ⊢ (bigSep Finset.univ fun i : Fin 16 => goPay m d c i.val : sProp 𝕄) := by
  unfold goPay stPay xPts iPts
  rw [bigSep_sep', bigSep_sep', bigSep_sep', pts_cut (ℓ := xLoc d) Finset.univ (m (xLoc d)) (cq c.val) 16 (by decide),
    pts_cut (ℓ := iLoc d) Finset.univ (m (iLoc d)) (cq c.val) 16 (by decide)]
  iintro ⟨⟨Hx, Hi, Ho⟩, %f, Hsh⟩
  isplitl [Hx]; · iexact Hx
  isplitl [Hi]; · iexact Hi
  isplitl [Ho]; · iexact Ho
  iapply ((Entails.of_eq (sh_chunks d c f)).trans (SparseCore.ent (bigSep_mono (Φ := fun i : Fin 16 => (shLoc d c ↦[chunk i.val]{fullShare} f : sProp 𝕄))
    (Ψ := fun i : Fin 16 => iprop(∃ f, shLoc d c ↦[chunk i.val]{fullShare} f))
    fun i _ => BI.BIClass.exists_intro (Φ := fun f => (shLoc d c ↦[chunk i.val]{fullShare} f : sProp 𝕄)) f)))
  iexact Hsh

/-- What the tiles of a SparseCore hand back: the operands with the result written, and the shared memory whole. -/
theorem td_collect (d : Dev nD) (c : Fin τ.nSC) :
    (bigSep Finset.univ fun i : Fin 16 => tdPay m d c i.val : sProp 𝕄) ⊢ iprop(stPay m d c.val (OUT m d) ∗ ∃ f, shLoc d c ↦{fullShare} f) := by
  unfold tdPay stPay xPts iPts
  rw [bigSep_sep', bigSep_sep', bigSep_sep', ← pts_cut (ℓ := xLoc d) Finset.univ (m (xLoc d)) (cq c.val) 16 (by decide),
    ← pts_cut (ℓ := iLoc d) Finset.univ (m (iLoc d)) (cq c.val) 16 (by decide),
    ← pts_cut (ℓ := shLoc d c) Finset.univ (shTab m d c) fullShare 16 (by decide)]
  iintro ⟨Hx, Hi, Ho, Hsh⟩
  isplitr [Hsh]
  · isplitl [Hx]; · iexact Hx
    isplitl [Hi]; · iexact Hi
    iexact Ho
  iexists _; iexact Hsh

/-- The shared memory is among the sequencer's own buffers. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  exact SparseCore.bigSep_erase' ((mem_ownRefs (p := Proc.scScalar c) (b := shRef c)).mpr rfl)

variable [FloatOps F]

/-- The call's operands go to the tiles, and come back from them. -/
theorem vecSplit : (K (F := F)).VecSplit (P m) 0 := by
  intro d c
  show iprop(stPay m d (coreOf c).val (m (oLoc d)) ∗ ownBufs (S d (coreOf c))) ⊢ |={Set.univ}=> iprop(
      (bigSep Finset.univ fun i : Fin 16 => goPay m d (coreOf c) i.val)
      ∗ ((bigSep Finset.univ fun i : Fin 16 => iprop(tdPay m d (coreOf c) i.val ∗ semVal (bcell d (coreOf c) ((K (F := F)).sub 0 i)) 0))
          -∗ iprop(iprop(stPay m d (coreOf c).val (OUT m d) ∗ bars d c) ∗ ownBufs (S d (coreOf c)))))
  rw [bigSep_sep' _ (fun i : Fin 16 => tdPay m d (coreOf c) i.val), ownBufs_S]
  iintro ⟨Hst, Hsh, Hrest⟩; imodintro
  isplitl [Hst Hsh]
  · iapply (go_deal m d (coreOf c))
    isplitl [Hst]; · iexact Hst
    iexact Hsh
  iintro ⟨Htd, Hbars⟩
  ihave H := (td_collect m d (coreOf c)) $$ Htd
  icases H with ⟨Hst, Hsh⟩
  isplitl [Hst Hbars]
  · isplitl [Hst]; · iexact Hst
    iexact Hbars
  isplitl [Hsh]; · iexact Hsh
  iexact Hrest

/-! ## The tiles' obligation -/

/-- The grid's coordinates of a tile. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 () = SparseCore.onTile hcore0 hsub0 (fun c s => tileProg (F := F) (coordsV c s)) ⟨⟩ c s := rfl

set_option maxRecDepth 16384 in
theorem tileObl (hpre : PreOK m) : (K (F := F)).TileObl (D (F := F)) 𝒱 (P m) v₀ 0 := by
  intro d c i O W hO hOlev _
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_ok m d (coordsV ⟨_, hci.1⟩ ⟨_, hci.2⟩) hpre facts hO hOlev

/-! ## The barriers' ghost state at the launch -/

/-- The tiles, and their barrier semaphores. -/
abbrev Tiles : Type := Dev nD × Fin τ.nSC × Fin τ.nSub
abbrev cellOf (x : Tiles) : GSem nD τ sig := bcell x.1 x.2.1 x.2.2
def bCells : Finset (GSem nD τ sig) := (Finset.univ : Finset Tiles).image cellOf
/-- A token for each arrival: of each tile, at each tile of its SparseCore. -/
def bToks : Finset (GSem nD τ sig × ℕ × ℕ) :=
  (Finset.univ : Finset (Tiles × Fin (grid0.bound 1))).image fun x => (bcell x.1.1 x.1.2.1 (x.2.castLE hsub0), 0, x.1.2.2.val)
/-- The ghost state at the launch. -/
def u₀ : UU := (initOf (K (F := F)).hsCells (K (F := F)).hsToks, (initOf bCells bToks, 1))

omit [FloatOps F] in
theorem cellOf_inj : Function.Injective cellOf := by
  rintro ⟨d, c, i⟩ ⟨d', c', i'⟩ e
  obtain ⟨hd, hp⟩ := Prod.mk.inj (Prod.mk.inj e).1
  obtain ⟨hc, hi⟩ := Proc.scVector.inj hp
  exact Prod.ext hd (Prod.ext hc hi)

omit [FloatOps F] in
theorem over_cells (Φ : GSem nD τ sig → sProp 𝕄) : bigSep bCells Φ = bigSep Finset.univ fun x : Tiles => Φ (cellOf x) :=
  SparseCore.bigSep_image_of_injOn cellOf_inj.injOn Φ

/-- The tokens, by the tile that spends them. -/
abbrev toksOf (x : Tiles) : sProp 𝕄 := bigSep Finset.univ fun j : Fin (grid0.bound 1) => dutyTok EB (bcell x.1 x.2.1 (j.castLE hsub0)) 0 x.2.2.val

omit [FloatOps F] in
theorem over_toks : (bigSep bToks fun x => (dutyTok EB x.1 x.2.1 x.2.2 : sProp 𝕄)) = bigSep Finset.univ fun x : Tiles => toksOf (F := F) x := by
  have inj : Function.Injective fun x : Tiles × Fin (grid0.bound 1) => ((bcell x.1.1 x.1.2.1 (x.2.castLE hsub0), 0, x.1.2.2.val) : GSem nD τ sig × ℕ × ℕ) := by
    rintro ⟨⟨d, c, i⟩, j⟩ ⟨⟨d', c', i'⟩, j'⟩ e
    obtain ⟨e1, e2⟩ := Prod.mk.inj e
    obtain ⟨hd, hp⟩ := Prod.mk.inj (Prod.mk.inj e1).1
    obtain ⟨hc, hj⟩ := Proc.scVector.inj hp
    have hi : i = i' := Fin.ext (Prod.mk.inj e2).2
    have hj : j = j' := Fin.ext (congrArg Fin.val hj)
    exact Prod.ext (Prod.ext hd (Prod.ext hc hi)) hj
  unfold bToks
  rw [SparseCore.bigSep_image_of_injOn inj.injOn, bigSep_univ_prod]

omit [FloatOps F] in
theorem own_parts (a : UH) (b : UB) : (ownU ((a, (b, 1)) : UU) : sProp 𝕄) ⊢ iprop(BI.own (EH a) ∗ BI.own (EB b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

omit [FloatOps F] in
/-- The barrier semaphores, at zero, are among the free semaphores of the launch. -/
theorem sems_in : ((K (F := F)).freeOn (· ∈ bCells) : sProp 𝕄) ⊢ bigSep bCells fun g => semVal g 0 := by
  unfold SparseCore.Cfg.freeOn
  rw [over_cells]
  refine sep_elim_right.trans (bigSep_mono fun x _ => ?_)
  exact bigSep_elim (Φ := fun sm : SemLoc sig => (semVal (V x.1 x.2.1 x.2.2, sm) 0 : sProp 𝕄)) (Finset.mem_filter.mpr
    ⟨Finset.mem_erase.mpr ⟨fun h => sc_bar0_ne_go (SemLoc.reg.inj h), Finset.mem_filter.mpr ⟨Finset.mem_univ _, by decide⟩⟩,
      Finset.mem_image_of_mem cellOf (Finset.mem_univ x)⟩)

omit [FloatOps F] in
/-- The invariants of the barrier semaphores. -/
theorem invs_in : iprop((bigSep bCells fun g => (semVal g 0 : sProp 𝕄)) ∗ bigSep bCells fun g => roundState EB (bRd m) g 0)
    ⊢ |={Set.univ}=> iprop(∃ κ : GSem nD τ sig → ℕ, bigSep bCells fun g => cellInv EB (bRd m) (κ g) g) := by
  refine (Rounds.bodies_intro EB (bRd m) bCells).trans ((inv_alloc_family bCells (Rounds.body EB (bRd m)) ∅ (E := Set.univ)).trans ?_)
  iintro H
  imod H with ⟨%κ, -, Hinv⟩
  imodintro; iexists κ; iexact Hinv

omit [FloatOps F] in
/-- `n` units, one at a time. -/
theorem units (g : GSem nD τ sig) (ι : HIx 1) (n : ℕ) : ∑ _ : Fin n, tallyAt g ι 1 = (tallyAt g ι n : CellTallies nD τ sig (HIx 1)) := by
  induction n with
  | zero => rw [Fin.sum_univ_zero, tallyAt_zero]
  | succ n ih => rw [Fin.sum_univ_castSucc, ih, tallyAt_add]

/-- The credit that covers the tiles' debts: to each tile the units that arrive at its own semaphore. -/
theorem creds_in : ((P (F := F) m).oxCred : sProp 𝕄) ⊢ bigSep Finset.univ fun x : Tiles => cred (tallyAt (cellOf x) (some 0) (grid0.bound 1)) := by
  unfold SparseCore.Cfg.Pay.oxCred
  rw [SparseCore.Cfg.bigSep_threads (fun thr : Thread nD τ => (cred ((P (F := F) m).oxFrom 0 thr) : sProp 𝕄))]
  refine sep_elim_right.trans (sep_elim_right.trans ?_)
  have hox (d : Dev nD) (c : Fin τ.nSC) (i : Fin τ.nSub) : (P (F := F) m).oxFrom 0 (V d c i) = oxV d c := by
    rw [show (0 : ℕ) = (0 : Fin 1).val from rfl, (P m).oxFrom_step, (P m).oxFrom_end _ (n := (0 : Fin 1).val + 1) le_rfl, add_zero]; rfl
  rw [bigSep_univ_prod, bigSep_univ_prod (fun x : Tiles => (cred (tallyAt (cellOf x) (some 0) (grid0.bound 1)) : sProp 𝕄))]
  refine bigSep_mono fun d _ => ?_
  rw [bigSep_univ_prod, bigSep_univ_prod (fun y : Fin τ.nSC × Fin τ.nSub => (cred (tallyAt (cellOf (d, y)) (some 0) (grid0.bound 1)) : sProp 𝕄))]
  refine bigSep_mono fun c _ => ?_
  simp only [hox]
  unfold oxV
  rw [SparseCore.Cfg.cred_finsum, bigSep_univ_comm]
  refine bigSep_mono fun j _ => ?_
  rw [← SparseCore.Cfg.cred_finsum, units]; rfl

omit [FloatOps F] in
/-- A collection of nothings is nothing. -/
theorem no_things {I : Type} (s : Finset I) : (bigSep s fun _ => iprop(emp)) = (iprop(emp) : sProp (MT nD τ sig (HIx 1) (Elt F) ℕ UU ℕ)) :=
  bigSep_emp_const s

omit [FloatOps F] in
/-- What may be kept while it is used, used at every place of a collection. -/
theorem at_each {I : Type} [DecidableEq I] {R : sProp (MT nD τ sig (HIx 1) (Elt F) ℕ UU ℕ)} [BI.Persistent R] (s : Finset I)
    {Φ Ψ : I → sProp (MT nD τ sig (HIx 1) (Elt F) ℕ UU ℕ)} (h : ∀ i, iprop(R ∗ Φ i) ⊢ Ψ i) : iprop(R ∗ bigSep s Φ) ⊢ bigSep s Ψ := by
  induction s using Finset.induction_on with
  | empty => rw [bigSep_empty, bigSep_empty]; exact sep_elim_right
  | insert i s hi ih =>
    rw [SparseCore.bigSep_insert' hi, SparseCore.bigSep_insert' hi]
    iintro ⟨#HR, Hi, Hs⟩
    isplitl [Hi]
    · iapply (h i); isplitr; · iexact HR
      iexact Hi
    · iapply ih; isplitr; · iexact HR
      iexact Hs

omit [FloatOps F] in
/-- A collection of such things, at the places of another. -/
theorem each_of {I J : Type} [DecidableEq I] [DecidableEq J] [Fintype I] {Φ : I → sProp (MT nD τ sig (HIx 1) (Elt F) ℕ UU ℕ)} [∀ i, BI.Persistent (Φ i)]
    (s : Finset J) (f : J → I) : bigSep Finset.univ Φ ⊢ bigSep s fun j => Φ (f j) := by
  iintro #H
  iapply (at_each (F := F) (R := bigSep Finset.univ Φ) s (Φ := fun _ => iprop(emp)) fun j =>
    sep_elim_left.trans (bigSep_elim (Φ := Φ) (Finset.mem_univ (f j))))
  isplitr; · iexact H
  rw [no_things]; iempintro

/-- What all tiles are handed: the invariants, and that every semaphore has reached its round. -/
abbrev common : sProp 𝕄 :=
  iprop((∃ κ : GSem nD τ sig → ℕ, bigSep Finset.univ fun x : Tiles => cellInv EB (bRd m) (κ (cellOf x)) (cellOf x))
    ∗ bigSep Finset.univ fun x : Tiles => reached EB (cellOf x) 0)
/-- What each is handed for itself: its place in its round, its tokens, its credit. -/
abbrev proper (x : Tiles) : sProp 𝕄 :=
  iprop(atPos EB (cellOf x) 0 ∅ 0 ∗ toksOf (F := F) x ∗ cred (tallyAt (cellOf x) (some 0) (grid0.bound 1)))

omit [FloatOps F] in
/-- A tile's means for its barrier. -/
theorem kit_of (x : Tiles) : iprop(common m ∗ proper (F := F) x) ⊢ (bkit m x.1 x.2.1 x.2.2 : sProp 𝕄) := by
  obtain ⟨d, c, i⟩ := x
  unfold bkit
  iintro ⟨⟨⟨%κ, #Hinv⟩, #Hr⟩, Hat, Htok, Hcred⟩
  isplitr
  · iexists κ
    iapply (each_of (F := F) (Φ := fun x : Tiles => cellInv EB (bRd m) (κ (cellOf x)) (cellOf x)) (Finset.univ : Finset (Fin (grid0.bound 1)))
      (fun j => (d, c, j.castLE hsub0)))
    iexact Hinv
  isplitl [Htok]; · iexact Htok
  isplitr
  · iapply (each_of (F := F) (Φ := fun x : Tiles => (reached EB (cellOf x) 0 : sProp 𝕄)) (Finset.univ : Finset (Fin (grid0.bound 1))) (fun j => (d, c, j.castLE hsub0)))
    iexact Hr
  isplitl [Hat]; · iexact Hat
  iexact Hcred

theorem x_T (d : Dev nD) : (bigSep Finset.univ fun q : Fin 1 => (P (F := F) m).x q (SparseCore.T d)) = iprop(emp) :=
  bigSep_univ_of_subsingleton (0 : Fin 1)
theorem x_S (d : Dev nD) (c : Fin τ.nSC) : (bigSep Finset.univ fun q : Fin 1 => (P (F := F) m).x q (S d c)) = iprop(emp) :=
  bigSep_univ_of_subsingleton (0 : Fin 1)
theorem x_V (d : Dev nD) (c : Fin τ.nSC) (i : Fin τ.nSub) :
    (bigSep Finset.univ fun q : Fin 1 => (P (F := F) m).x q (V d c i)) = bkit m d c i :=
  bigSep_univ_of_subsingleton (0 : Fin 1)

/-- The launch deals every tile its means. -/
theorem hu₀ : iprop(ownU (u₀ (F := F)) ∗ (P (F := F) m).oxCred ∗ (K (F := F)).freeOn (· ∈ bCells))
    ⊢ |={Set.univ}=> iprop(BI.own (EH (initOf (K (F := F)).hsCells (K (F := F)).hsToks)) ∗ (bigSep Finset.univ fun _ : Dev nD => iprop(emp))
        ∗ (bigSep Finset.univ fun thr : Thread nD τ => bigSep Finset.univ fun q : Fin 1 => (P m).x q thr) : sProp 𝕄) := by
  unfold u₀
  iintro ⟨Hu, Hcred, Hfree⟩
  ihave H := (own_parts _ _) $$ Hu
  icases H with ⟨HH, HB⟩
  imod (Rounds.fund EB (bRd m) bCells bToks) $$ HB with ⟨Hst, #Hr, Hat, Htok⟩
  ihave Hsems := (sems_in (F := F)) $$ Hfree
  imod (invs_in m) $$ [Hsems Hst] with ⟨%κ, #Hinv⟩
  · isplitl [Hsems]; · iexact Hsems
    iexact Hst
  ihave Hcred := (creds_in m) $$ Hcred
  ihave Hinv' := (Entails.of_eq (over_cells (F := F) fun g => cellInv EB (bRd m) (κ g) g)) $$ Hinv
  ihave Hr' := (Entails.of_eq (over_cells (F := F) fun g => reached EB g 0)) $$ Hr
  ihave Hat := (Entails.of_eq (over_cells (F := F) fun g => atPos EB g 0 ∅ 0)) $$ Hat
  ihave Htok := (Entails.of_eq (over_toks (F := F))) $$ Htok
  imodintro
  isplitl [HH]; · iexact HH
  isplitr; · rw [no_things]; iempintro
  rw [SparseCore.Cfg.bigSep_threads (fun thr : Thread nD τ => bigSep Finset.univ fun q : Fin 1 => (P m).x q thr)]
  simp only [x_T, x_S, x_V, no_things]
  isplitr; · iempintro
  isplitr; · iempintro
  iapply (at_each (F := F) (R := common m) Finset.univ (Φ := proper (F := F)) fun x => kit_of m x)
  isplitr
  · isplitl; · iexists κ; iexact Hinv'
    iexact Hr'
  unfold proper
  rw [bigSep_sep', bigSep_sep']
  isplitl [Hat]; · iexact Hat
  isplitl [Htok]; · iexact Htok
  iexact Hcred

/-! ## The program's entry -/

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (iLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

theorem st_eq (d : Dev nD) : (bigSep Finset.univ fun c : Fin ((K (F := F)).nCore 0) => (P m).st 0 d c)
    = iprop(xPts m d fullShare ∗ iPts m d fullShare ∗ oLoc d ↦{fullShare} m (oLoc d)) :=
  (show _ = bigSep Finset.univ fun c : Fin 2 => stPay m d c.val (m (oLoc d)) from rfl).trans (st_whole m d _)

/-- What the call leaves: the table and the list as they were, the result, the barrier semaphores at zero. -/
abbrev FIN (d : Dev nD) : sProp 𝕄 :=
  iprop((xPts m d fullShare ∗ iPts m d fullShare ∗ oLoc d ↦{fullShare} OUT m d) ∗ bigSep Finset.univ fun c : Fin ((K (F := F)).nCore 0) => bars d c)

theorem dn_eq (d : Dev nD) : (bigSep Finset.univ fun c : Fin ((K (F := F)).nCore 0) => (P m).dn 0 d c) = FIN m d := by
  unfold FIN
  rw [← st_whole, ← bigSep_sep']
  rfl

/-- The program's entry: the one call, from the table, the list and the result. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, Hargs, Hts, -⟩, -⟩
  iapply ((K (F := F)).wp_run (D (F := F)) 𝒱 (EH := EH) (P := P m) κ d 0) $$ [Hst Hargs Hb Hts]
  isplitr; · iexact Hctx
  isplitl [Hst]; · iexact Hst
  isplitl [Hargs]
  · rw [st_eq]; iexact Hargs
  iintro ⟨Hst, Hdn⟩
  ihave Hdn := (Entails.of_eq (dn_eq m d)) $$ Hdn
  imodintro
  isplitl [Hst]; · iexact Hst
  isplitl [Hdn]; · iexact Hdn
  isplitl [Hb]; · iexact Hb
  iexact Hts

/-! ## What the final memory holds -/

/-- What is read off the final state. -/
def fq (d : Dev nD) (s' : Phys nD τ sig (Elt F)) : Prop :=
  (s'.mem.mem (xLoc d) = m (xLoc d) ∧ s'.mem.mem (iLoc d) = m (iLoc d) ∧ s'.mem.mem (oLoc d) = OUT m d)
    ∧ ∀ (c : Fin ((K (F := F)).nCore 0)) (i : Fin ((K (F := F)).nSub 0)), s'.mem.sem (bcell d (coreOf (F := F) c) ((K (F := F)).sub 0 i)) = 0

omit [FloatOps F] in
/-- A buffer held whole has the contents it is held at. -/
theorem holds_read (ℓ : Loc nD τ sig) (f : Buf (Elt F) ℓ) (s' : Phys nD τ sig (Elt F)) :
    iprop((ℓ ↦{fullShare} f) ∗ SI s') ⊢ (⌜s'.mem.mem ℓ = f⌝ : sProp 𝕄) := by
  iintro ⟨Hp, HSI⟩
  ihave H := (SI_pointsTo_agree (st := s') (ℓ := ℓ) (I := Finset.univ) (q := fullShare) (f := f)) $$ [HSI Hp]
  · isplitl [HSI]; · iexact HSI
    iexact Hp
  icases H with %h
  ipureintro; exact funext fun i => h i (Finset.mem_univ i)

theorem hfin (d : Dev nD) (s' : Phys nD τ sig (Elt F)) : iprop(FIN m d ∗ SI s') ⊢ (⌜fq m d s'⌝ : sProp 𝕄) := fun x hx =>
  ⟨⟨((sep_mono_left (sep_elim_left.trans sep_elim_left)).trans (holds_read _ _ s')) x hx,
    ((sep_mono_left (sep_elim_left.trans (sep_elim_right.trans sep_elim_left))).trans (holds_read _ _ s')) x hx,
    ((sep_mono_left (sep_elim_left.trans (sep_elim_right.trans sep_elim_right))).trans (holds_read _ _ s')) x hx⟩,
    fun c i => ((sep_mono_left (sep_elim_right.trans (SparseCore.ent ((bigSep_elim (Finset.mem_univ c)).trans (bigSep_elim (Finset.mem_univ i)))))).trans
      (SparseCore.Cfg.semVal_zero_read _ s')) x hx⟩

/-- The barrier semaphores end at zero. -/
theorem hA (s' : Phys nD τ sig (Elt F)) (h : ∀ d, fq m d s') (g : GSem nD τ sig) (hg : g ∈ bCells) : s'.mem.sem g = 0 := by
  obtain ⟨⟨d, c, i⟩, -, rfl⟩ := Finset.mem_image.mp hg
  exact (h d).2 ⟨c.val, c.isLt⟩ ⟨i.val, i.isLt⟩

/-! ## The run -/

/-- What is proved of the run's end. -/
def QC : PUnit × MemSt nD τ sig (Elt F) → Prop := fun r =>
  (∀ d : Dev nD, r.2.mem (xLoc d) = m (xLoc d) ∧ r.2.mem (iLoc d) = m (iLoc d) ∧ r.2.mem (oLoc d) = OUT m d) ∧ r.2.sem = fun _ => 0

/-- The program runs to its end, and there the result is `OUT`. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (hA := hA m) facts v₀
    (fun q hq => match q with | 0 => nomatch hq)
    (fun q _ => match q with | 0 => tileObl m hpre)
    (fun q _ => match q with | 0 => vecSplit m)
    m ρ main (fun _ => iprop(emp)) (FIN m) (u₀ (F := F)) (hu₀ m) (hmain m ρ) (fq m) (hfin m) (QC m) (fun _ h hz => ⟨fun d => (h d).1, hz⟩)

end Cert.Proof
-- ==== Proof.Value.lean ====
/-
  The values: the precondition read as a bound on the list's entries, and what the reference computes under it. The
  reference wraps a negative entry, gathers, and puts a fill value where the entry is out of range; with every entry in
  range neither happens, and row `r` of its result is the table's row that entry `r` names, which is `OUT`.
-/
module

public import proofs.«01_k».proof.Proof.Setup
public import proofs.«01_k».proof.Proof.Gen.Pre_idx_in_rows
public import proofs.«01_k».proof.Proof.Gen.ReferenceIdeal
public import Idealize.ShloMosaic.Lib.ReduceAll

@[expose] public section

noncomputable section

namespace Cert.Proof

open Idealize.ShloMosaic
open Cert.ReferenceIdeal (S10000x128 S100000 S100000x1 S100000x128 S_ S1 S1x1)
open Cert.ReferenceIdeal.Gen

variable {F : FTy → Type} [FloatOps F]

/-- Every entry of the list, read unsigned, is below 10000. -/
def Small (p : IVec S100000 32) : Prop := ∀ j, (p j).toNat < 10000

/-- A word that is not negative and below 10000 read signed is below 10000 read unsigned. -/
theorem toNat_lt_of {v : BitVec 32} (h0 : 0 ≤ v.toInt) (h1 : v.toInt < 10000) : v.toNat < 10000 := by
  rw [BitVec.toInt_eq_toNat_cond] at h0 h1
  split at h1 <;> omega

/-- A word below 10000 read unsigned is the same number read signed. -/
theorem toInt_of_small {v : BitVec 32} (h : v.toNat < 10000) : v.toInt = (v.toNat : ℤ) := by
  rw [BitVec.toInt_eq_toNat_cond, if_pos (by omega)]

/-- The precondition says that every entry of the list is in range. -/
theorem small_of_pre (x : FVec F S10000x128 .f32) (p : IVec S100000 32) (h : Cert.Pre_idx_in_rows.fn (F := F) x p = fun _ => 1#1) : Small p := by
  haveI : Subsingleton Cert.Pre_idx_in_rows.S_.Idx := ⟨fun a b => funext fun i => i.elim0⟩
  intro j
  obtain ⟨hge, hlt⟩ := IntOp.andi_eq_one.1 (congrFun h (fun i => i.elim0))
  have h0 := IntOp.cmpi_sge.1 (Host.reduce_andi_all _ _ _ _ _ hge j)
  have h1 := IntOp.cmpi_slt.1 (Host.reduce_andi_all _ _ _ _ _ hlt j)
  exact toNat_lt_of h0 h1

/-- No entry in range is wrapped. -/
theorem wrap_eq (p : IVec S100000 32) (hp : Small p) (z k : IVec S100000 32) (hz : ∀ j, z j = 0#32) : select (cmpi .slt p z) (addi p k) p = p := by
  funext j
  have hn : ¬ IntOp.cmpi .slt (p j) (z j) = 1#1 := fun e => by
    have := IntOp.cmpi_slt.1 e
    rw [hz, toInt_of_small (hp j)] at this
    have h0 : (0#32 : BitVec 32).toInt = 0 := rfl
    omega
  exact if_neg hn

set_option backward.proofsInPublic true in
/-- Entry `r` of the list as a column, `r` taken modulo its length. -/
def colIx (r : ℕ) : S100000x1.Idx := fun a => match a with
  | 0 => (⟨r % 100000, Nat.mod_lt _ (by decide)⟩ : Fin 100000)
  | 1 => (⟨0, Nat.one_pos⟩ : Fin 1)

/-- The gather at `(r, b)`: column `b` of the table's row that the start index of row `r` names, kept inside the table. -/
theorem gather_at (x : FVec F S10000x128 .f32) (idx : IVec S100000x1 32) (y : S100000x128.Idx) :
    Host.gather Cert.ReferenceIdeal.gather_S10000x128_S100000x1_S100000x128_1_0_n_n_0_1_1128 x idx y
      = x (tIx (min (idx (colIx (y 0).val)).toInt.toNat 9999) (y 1)) := by
  unfold Host.gather
  congr 1
  funext a
  refine Fin.ext ?_
  let D := Cert.ReferenceIdeal.gather_S10000x128_S100000x1_S100000x128_1_0_n_n_0_1_1128
  show D.start y idx a + D.batchCoord y a + D.offCoord y a = _
  rw [GatherDims.batchCoord_eq_zero _ _ _ List.not_mem_nil, Nat.add_zero]
  have h01 : a = (0 : Fin 2) ∨ a = (1 : Fin 2) := by revert a; decide
  rcases h01 with rfl | rfl
  · rw [GatherDims.offCoord_eq_zero _ _ _ (fun h => ((GatherDims.mem_sKept _ _).mp h).1 (List.mem_singleton.mpr rfl)), Nat.add_zero]
    have hs : D.siIdx y ⟨List.idxOf (0 : Fin 2) D.startIndexMap, List.idxOf_lt_length_iff.2 (List.mem_singleton.mpr rfl)⟩ = colIx (y 0).val := by
      have hy : (y 0).val < 100000 := (y 0).isLt
      funext b; refine Fin.ext ?_
      match b with
      | ⟨0, _⟩ => exact (Nat.mod_eq_of_lt hy).symm
      | ⟨1, _⟩ => rfl
    have hst : D.start y idx (0 : Fin 2) = min (idx (D.siIdx y ⟨List.idxOf (0 : Fin 2) D.startIndexMap, List.idxOf_lt_length_iff.2 (List.mem_singleton.mpr rfl)⟩)).toInt.toNat 9999 :=
      dif_pos (List.mem_singleton.mpr rfl)
    rw [hst, hs]
    exact (Nat.mod_eq_of_lt (by omega)).symm
  · have hst : D.start y idx (1 : Fin 2) = 0 := dif_neg (show (1 : Fin 2) ∉ [(0 : Fin 2)] by decide)
    rw [hst, Nat.zero_add]
    rfl

/-- The reference's result as the operations compose it, of the table and the list with negative entries wrapped. -/
abbrev refOf (x : FVec F S10000x128 .f32) (q : IVec S100000 32) : FVec F S100000x128 .f32 :=
  select (broadcastInDim S100000x128 ![0] bcast_S100000_S100000x128_0 (Host.reduce IntOp.andi
      (andi (cmpi .sge (broadcastInDim S100000x1 ![0] bcast_S100000_S100000x1_0 q) (broadcastInDim S100000x1 ![] bcast_S_S100000x1 (constantI S_ 32 0#32)))
        (cmpi .sle (broadcastInDim S100000x1 ![0] bcast_S100000_S100000x1_0 q)
          (broadcastInDim S100000x1 ![0, 1] bcast_S1x1_S100000x1_0_1 (broadcastInDim S1x1 ![1] bcast_S1_S1x1_1 (constantI S1 32 9999#32)))))
      (constantI S_ 1 1#1) reducesTo_S100000x1_S100000_d1 h_S_))
    (Host.gather Cert.ReferenceIdeal.gather_S10000x128_S100000x1_S100000x128_1_0_n_n_0_1_1128 x (broadcastInDim S100000x1 ![0] bcast_S100000_S100000x1_0 q))
    (broadcastInDim S100000x128 ![] bcast_S_S100000x128 (constant S_ .f32 0x7FC00000#32))

/-- The list as a column, at a place. -/
theorem col_at (q : IVec S100000 32) (i : S100000x1.Idx) : broadcastInDim S100000x1 ![0] bcast_S100000_S100000x1_0 q i = q (iIx (i 0).val) := by
  unfold broadcastInDim
  congr 1
  funext a
  obtain rfl : a = 0 := Subsingleton.elim _ _
  refine Fin.ext ?_
  have : (i 0).val < 100000 := (i 0).isLt
  exact (Nat.mod_eq_of_lt this).symm

/-- What the reference computes of a list in range. -/
theorem refOf_at (x : FVec F S10000x128 .f32) (q : IVec S100000 32) (hq : Small q) (y : S100000x128.Idx) :
    refOf x q y = x (tIx (q (iIx (y 0).val)).toNat (y 1)) := by
  have hall : Host.reduce IntOp.andi
      (andi (cmpi .sge (broadcastInDim S100000x1 ![0] bcast_S100000_S100000x1_0 q) (broadcastInDim S100000x1 ![] bcast_S_S100000x1 (constantI S_ 32 0#32)))
        (cmpi .sle (broadcastInDim S100000x1 ![0] bcast_S100000_S100000x1_0 q)
          (broadcastInDim S100000x1 ![0, 1] bcast_S1x1_S100000x1_0_1 (broadcastInDim S1x1 ![1] bcast_S1_S1x1_1 (constantI S1 32 9999#32)))))
      (constantI S_ 1 1#1) reducesTo_S100000x1_S100000_d1 h_S_ = fun _ => 1#1 := by
    funext j
    refine Host.reduce_andi_one _ _ _ _ j rfl fun i => IntOp.andi_eq_one.2 ⟨IntOp.cmpi_sge.2 ?_, IntOp.cmpi_sle.2 ?_⟩
    · rw [col_at, toInt_of_small (hq _)]; exact Int.natCast_nonneg _
    · rw [col_at, toInt_of_small (hq _)]
      have h9 : (9999#32 : BitVec 32).toInt = 9999 := by decide
      have := hq (iIx (i 0).val)
      show _ ≤ (9999#32 : BitVec 32).toInt
      omega
  unfold refOf
  rw [hall]
  show Scalar.select 1#1 (Host.gather _ x _ y) _ = _
  refine (if_pos rfl : _ = Host.gather Cert.ReferenceIdeal.gather_S10000x128_S100000x1_S100000x128_1_0_n_n_0_1_1128 x _ y).trans ?_
  rw [gather_at, col_at]
  have h := hq (iIx (y 0).val)
  rw [show (colIx (y 0).val 0).val = (y 0).val from Nat.mod_eq_of_lt (y 0).isLt, toInt_of_small h, Int.toNat_natCast, Nat.min_eq_left (by omega)]

end Cert.Proof

end
-- ==== Proof.lean ====
/-
  The claims, from the run of the kernel (`run_main`), the reference's run, and what both compute (`OUT`).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_idx_in_rows
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem

/-- The precondition, over either kind of float values, bounds the list's entries. -/
theorem ok_of_pre {F : FTy → Type} [FloatOps F]
    (m : (ℓ : Loc Cert.KernelIdeal.nD Cert.KernelIdeal.τ Cert.KernelIdeal.sig) → Buf (Elt F) ℓ)
    (h : ∀ d : Dev Cert.KernelIdeal.nD, Cert.Pre_idx_in_rows.fn (F := F) (m (xLoc d)) (m (iLoc d)) = fun _ => 1#1) : PreOK m :=
  fun d => small_of_pre _ _ (h d)

/-- The kernel runs to its end, leaves its arguments as they were, and every semaphore is at zero. -/
theorem frame_kernel : Cert.quiescent_Kernel := fun m ρ hpre =>
  (θ_run Cert.KernelIdeal.defs _ _).mono (fun _ h => ⟨fun c => ⟨(h.1 c).1, (h.1 c).2.1⟩, h.2⟩)
    (run_main (F := Bits) m ρ (ok_of_pre m hpre))

/-- The same over ideal values. -/
theorem frame_ideal : Cert.quiescent_KernelIdeal := fun m ρ hpre =>
  (θ_run Cert.KernelIdeal.defs _ _).mono (fun _ h => ⟨fun c => ⟨(h.1 c).1, (h.1 c).2.1⟩, h.2⟩)
    (run_main (F := Ideal) m ρ (ok_of_pre m hpre))

/-- The reference runs to its end and leaves its arguments as they were; it has no semaphores. -/
theorem frame_reference : Cert.quiescent_ReferenceIdeal := fun m ρ _ =>
  (θ_run Cert.ReferenceIdeal.defs _ _).mono (fun _ h => ⟨fun c => (h c).2, funext fun g => match g with | (_, .reg s) => s.elim0 | (_, .dma s) => s.elim0⟩)
    (Cert.ReferenceIdeal.Value.run (F := Ideal) m ρ)

/-- The reference's result, of arguments in range, is the kernel's. -/
theorem reference_out (m : (ℓ : Loc Cert.KernelIdeal.nD Cert.KernelIdeal.τ Cert.KernelIdeal.sig) → Buf (Elt Ideal) ℓ) (hpre : PreOK m)
    (d : Dev Cert.KernelIdeal.nD) : refOf (F := Ideal) (m (xLoc d)) (m (iLoc d)) = OUT m d :=
  funext fun y => refOf_at _ _ (hpre d) y

/-- The kernel and the reference compute the same. -/
theorem same_result : Cert.algebraic_KernelIdeal_ReferenceIdeal := fun m ρ m' ρ' hpre hargs => by
  have hok := ok_of_pre m hpre
  refine ⟨fun c => OUT m c, (θ_run Cert.KernelIdeal.defs _ _).mono (fun _ h c => ⟨(h.1 c).2.2, (h.1 c).1, (h.1 c).2.1⟩) (run_main (F := Ideal) m ρ hok), ?_⟩
  refine (θ_run Cert.ReferenceIdeal.defs _ _).mono (fun r h c => ⟨(h c).1.trans ?_, (h c).2⟩) (Cert.ReferenceIdeal.Value.run (F := Ideal) m' ρ')
  rw [(hargs c).1, (hargs c).2]
  exact (congrArg (refOf (F := Ideal) (m (xLoc c))) (wrap_eq (m (iLoc c)) (hok c) _ _ fun _ => rfl)).trans (reference_out m hok c)

/-- All the claims. -/
theorem claim : Cert.Claim := ⟨Cert.Kernel.Gen.facts, Cert.KernelIdeal.Gen.facts, Cert.ReferenceIdeal.Gen.facts, Cert.Pre_idx_in_rows.Gen.facts,
  frame_kernel, frame_ideal, frame_reference, fun m ρ _ => frame_reference m ρ trivial, trivial, same_result⟩

end Cert.Proof

end
